-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![1024, 1024]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S512x512 : Shape := ⟨2, ![512, 512]⟩
abbrev S2 : Shape := ⟨1, ![2]⟩
abbrev S16 : Shape := ⟨1, ![16]⟩
abbrev S8 : Shape := ⟨1, ![8]⟩
abbrev S_ : Shape := ⟨0, ![]⟩
abbrev S1 : Shape := ⟨1, ![1]⟩
abbrev S64x512 : Shape := ⟨2, ![64, 512]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .bf16⟩
  | .local _ .vmem, ⟨0, _⟩ => ⟨S512x512, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32_15 : BitVec 32 := 0#32
  ![v8.toNat, 0]
def k0_dev3 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v39 : BitVec 32 := Scalar.muli v6 c2_i32_27
  let v40 : BitVec 32 := Scalar.addi c0_i32_28 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v41 : BitVec 32 := Scalar.muli v5 c1_i32_29
  let v42 : BitVec 32 := Scalar.addi v40 v41
  v42.toNat
def k0_dev4 (d0 : Dev nD) : Nat :=
  let c0_i32_41 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_40 : BitVec 32 := 2#32
  let v56 : BitVec 32 := Scalar.muli v6 c2_i32_40
  let v57 : BitVec 32 := Scalar.addi c0_i32_41 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v58 : BitVec 32 := Scalar.muli v5 c1_i32_42
  let v59 : BitVec 32 := Scalar.addi v57 v58
  v59.toNat
def k0_dev5 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v73 : BitVec 32 := Scalar.muli v6 c2_i32_52
  let v74 : BitVec 32 := Scalar.addi c0_i32_53 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v75 : BitVec 32 := Scalar.muli v5 c1_i32_54
  let v76 : BitVec 32 := Scalar.addi v74 v75
  v76.toNat
def k0_dev6 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v90 : BitVec 32 := Scalar.muli v6 c2_i32_63
  let v91 : BitVec 32 := Scalar.addi c0_i32_64 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v92 : BitVec 32 := Scalar.muli v5 c1_i32_65
  let v93 : BitVec 32 := Scalar.addi v91 v92
  v93.toNat
def k0_dev7 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v107 : BitVec 32 := Scalar.muli v6 c2_i32_74
  let v108 : BitVec 32 := Scalar.addi c0_i32_75 v107
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v109 : BitVec 32 := Scalar.muli v5 c1_i32_76
  let v110 : BitVec 32 := Scalar.addi v108 v109
  v110.toNat
def k0_dev8 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v124 : BitVec 32 := Scalar.muli v6 c2_i32_85
  let v125 : BitVec 32 := Scalar.addi c0_i32_86 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v126 : BitVec 32 := Scalar.muli v5 c1_i32_87
  let v127 : BitVec 32 := Scalar.addi v125 v126
  v127.toNat
def k0_dev9 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v141 : BitVec 32 := Scalar.muli v6 c2_i32_96
  let v142 : BitVec 32 := Scalar.addi c0_i32_97 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v143 : BitVec 32 := Scalar.muli v5 c1_i32_98
  let v144 : BitVec 32 := Scalar.addi v142 v143
  v144.toNat
def k0_dev10 (d0 : Dev nD) : Nat :=
  let c0_i32_108 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_107 : BitVec 32 := 2#32
  let v158 : BitVec 32 := Scalar.muli v6 c2_i32_107
  let v159 : BitVec 32 := Scalar.addi c0_i32_108 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v160 : BitVec 32 := Scalar.muli v5 c1_i32_109
  let v161 : BitVec 32 := Scalar.addi v159 v160
  v161.toNat
def k0_dev11 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v182 : BitVec 32 := Scalar.muli v2 c2_i32_130
  let v183 : BitVec 32 := Scalar.addi c0_i32_131 v182
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_132 : BitVec 32 := 1#32
  let v184 : BitVec 32 := Scalar.muli v7 c1_i32_132
  let v185 : BitVec 32 := Scalar.addi v183 v184
  v185.toNat
def k0_off2 (d0 : Dev nD) (c0_i32_137 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v192 : BitVec 32 := Scalar.addi v8 c0_i32_137
  let c0_i32_139 : BitVec 32 := 0#32
  ![v192.toNat, 0]
def k0_dev12 (d0 : Dev nD) : Nat :=
  let c0_i32_160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_159 : BitVec 32 := 2#32
  let v211 : BitVec 32 := Scalar.muli v2 c2_i32_159
  let v212 : BitVec 32 := Scalar.addi c0_i32_160 v211
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_161 : BitVec 32 := 1#32
  let v213 : BitVec 32 := Scalar.muli v7 c1_i32_161
  let v214 : BitVec 32 := Scalar.addi v212 v213
  v214.toNat
def k0_dev13 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v240 : BitVec 32 := Scalar.muli v2 c2_i32_188
  let v241 : BitVec 32 := Scalar.addi c0_i32_189 v240
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v242 : BitVec 32 := Scalar.muli v7 c1_i32_190
  let v243 : BitVec 32 := Scalar.addi v241 v242
  v243.toNat
def k0_dev14 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v269 : BitVec 32 := Scalar.muli v2 c2_i32_217
  let v270 : BitVec 32 := Scalar.addi c0_i32_218 v269
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_219 : BitVec 32 := 1#32
  let v271 : BitVec 32 := Scalar.muli v7 c1_i32_219
  let v272 : BitVec 32 := Scalar.addi v270 v271
  v272.toNat
def k0_dev15 (d0 : Dev nD) : Nat :=
  let c0_i32_247 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_246 : BitVec 32 := 2#32
  let v298 : BitVec 32 := Scalar.muli v2 c2_i32_246
  let v299 : BitVec 32 := Scalar.addi c0_i32_247 v298
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_248 : BitVec 32 := 1#32
  let v300 : BitVec 32 := Scalar.muli v7 c1_i32_248
  let v301 : BitVec 32 := Scalar.addi v299 v300
  v301.toNat
def k0_dev16 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_275 : BitVec 32 := 2#32
  let v327 : BitVec 32 := Scalar.muli v2 c2_i32_275
  let v328 : BitVec 32 := Scalar.addi c0_i32_276 v327
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_277 : BitVec 32 := 1#32
  let v329 : BitVec 32 := Scalar.muli v7 c1_i32_277
  let v330 : BitVec 32 := Scalar.addi v328 v329
  v330.toNat
def k0_dev17 (d0 : Dev nD) : Nat :=
  let c0_i32_305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_304 : BitVec 32 := 2#32
  let v356 : BitVec 32 := Scalar.muli v2 c2_i32_304
  let v357 : BitVec 32 := Scalar.addi c0_i32_305 v356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_306 : BitVec 32 := 1#32
  let v358 : BitVec 32 := Scalar.muli v7 c1_i32_306
  let v359 : BitVec 32 := Scalar.addi v357 v358
  v359.toNat
def k0_dev18 (d0 : Dev nD) : Nat :=
  let c0_i32_334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_333 : BitVec 32 := 2#32
  let v385 : BitVec 32 := Scalar.muli v2 c2_i32_333
  let v386 : BitVec 32 := Scalar.addi c0_i32_334 v385
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_335 : BitVec 32 := 1#32
  let v387 : BitVec 32 := Scalar.muli v7 c1_i32_335
  let v388 : BitVec 32 := Scalar.addi v386 v387
  v388.toNat
def k0_off3 (d0 : Dev nD) (c0_i32_354 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  let v408 : BitVec 32 := Scalar.addi v10 c0_i32_354
  let c0_i32_355 : BitVec 32 := 0#32
  ![v408.toNat, 0]
-- ==== ReferenceIdeal.lean ====
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealSteps.lean ====
/-
The kernel body, restated as a short program: a prologue, one step per chunk for each of the four phases, and the waits
that drain what is still in flight. Every step is written once, at a symbolic chunk.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-! ## Buffers, chunks, semaphores -/

/-- The argument A. -/
abbrev aH : Memref sig .tc .hbm S1024x512 .f32 := Memref.whole main_arg0
/-- The argument B. -/
abbrev bH : Memref sig .tc .hbm S512x1024 .f32 := Memref.whole main_arg1
/-- The output. -/
abbrev oH : Memref sig .tc .hbm S1024x1024 .bf16 := Memref.whole main_v1
/-- The scratch for the device's rows of A. -/
abbrev aV : Memref sig .tc .vmem S512x512 .f32 := Memref.whole cc0_scratch0
/-- The scratch for B. -/
abbrev bV : Memref sig .tc .vmem S512x1024 .f32 := Memref.whole cc0_scratch1
/-- The partial products this device computes; -/
abbrev xsV : Memref sig .tc .vmem S512x1024 .bf16 := Memref.whole cc0_scratch2
/-- the partial products its x-neighbour sends it; -/
abbrev xrV : Memref sig .tc .vmem S512x1024 .bf16 := Memref.whole cc0_scratch3
/-- their sums; -/
abbrev ysV : Memref sig .tc .vmem S512x1024 .bf16 := Memref.whole cc0_scratch4
/-- and the sums its y-neighbour sends it. -/
abbrev yrV : Memref sig .tc .vmem S512x1024 .bf16 := Memref.whole cc0_scratch5

/-- The first row of chunk `r`: 64 rows to a chunk. -/
abbrev row (r : Fin 8) : Fin 2 → Nat := ![64 * r.val, 0]
/-- Chunks lie inside their buffer. -/
theorem row_inb : ∀ (r : Fin 8) (a : Fin 2), row r a + S64x1024.size a ≤ S512x1024.size a := by decide
/-- Chunks of rows lie inside the loaded rows of A. -/
theorem row_inbA : ∀ (r : Fin 8) (a : Fin 2), row r a + S64x512.size a ≤ S512x512.size a := by decide
/-- Chunks hold whole packed rows. -/
theorem row_packed : ∀ r : Fin 8, (Rect.unit (s := S512x1024) (row r) S64x1024.size (row_inb r)).PackedRows (EltTy.packing .bf16) := by decide
/-- Chunks hold whole words. -/
theorem row_words : ∀ r : Fin 8, (Rect.unit (s := S512x1024) (row r) S64x1024.size (row_inb r)).WholeWords (EltTy.packing .bf16) := by decide

/-- The rectangle of chunk `r`. -/
abbrev rowRect (r : Fin 8) : Rect S512x1024 := Rect.unit (s := S512x1024) (row r) S64x1024.size (row_inb r)

/-- Chunk `r` of a 512-row bf16 buffer. -/
abbrev chunk (M : Memref sig .tc .vmem S512x1024 .bf16) (r : Fin 8) : Memref sig .tc .vmem S64x1024 .bf16 :=
  M.slice (rowRect r) (fun _ => rfl)
/-- The 64 rows of the output that chunk `r` of this device's own half fills, -/
abbrev outOwn (c : Dev nD) (r : Fin 8) : Memref sig .tc .hbm S64x1024 .bf16 :=
  oH.slice (Rect.unit (s := S1024x1024) (k0_off2 c (BitVec.ofNat 32 (64 * r.val))) S64x1024.size (k0_off2_inb c r)) (fun _ => rfl)
/-- and those that chunk `r` of its y-neighbour's half fills. -/
abbrev outPeer (c : Dev nD) (r : Fin 8) : Memref sig .tc .hbm S64x1024 .bf16 :=
  oH.slice (Rect.unit (s := S1024x1024) (k0_off3 c (BitVec.ofNat 32 (64 * r.val))) S64x1024.size (k0_off3_inb c r)) (fun _ => rfl)
/-- This device's half of its A block. -/
abbrev aHalf (c : Dev nD) : Memref sig .tc .hbm S512x512 .f32 :=
  aH.slice (Rect.unit (s := S1024x512) (k0_off1 c) S512x512.size (k0_off1_inb c)) (fun _ => rfl)

/-- Two places. -/
theorem inb2 : ∀ (r : Fin 2) (a : Fin 1), (![r.val] : Fin 1 → Nat) a + S1.size a ≤ S2.size a := by decide
/-- Eight places. -/
theorem inb8 : ∀ (r : Fin 8) (a : Fin 1), (![r.val] : Fin 1 → Nat) a + S1.size a ≤ S8.size a := by decide
/-- Sixteen places. -/
theorem inb16 : ∀ (r : Fin 16) (a : Fin 1), (![r.val] : Fin 1 → Nat) a + S1.size a ≤ S16.size a := by decide

/-- The semaphores of the loads. -/
abbrev inS (r : Fin 2) : DmaSem sig := ((cc0_scratch6.slice (Rect.unit (s := S2) ![r.val] S1.size (inb2 r))).squeeze S_ squeezes_S1_S_ : DmaSems sig S_).sem
/-- The semaphores of the copies into the output. -/
abbrev outS (r : Fin 16) : DmaSem sig := ((cc0_scratch7.slice (Rect.unit (s := S16) ![r.val] S1.size (inb16 r))).squeeze S_ squeezes_S1_S_ : DmaSems sig S_).sem
/-- Semaphore `r` of an array of eight. -/
abbrev sem8 (A : DmaSems sig S8) (r : Fin 8) : DmaSem sig := ((A.slice (Rect.unit (s := S8) ![r.val] S1.size (inb8 r))).squeeze S_ squeezes_S1_S_ : DmaSems sig S_).sem
/-- The send semaphores along x. -/
abbrev xsS (r : Fin 8) : DmaSem sig := sem8 cc0_scratch8 r
/-- The receive semaphores along x. -/
abbrev xrS (r : Fin 8) : DmaSem sig := sem8 cc0_scratch9 r
/-- The send semaphores along y. -/
abbrev ysS (r : Fin 8) : DmaSem sig := sem8 cc0_scratch10 r
/-- The receive semaphores along y. -/
abbrev yrS (r : Fin 8) : DmaSem sig := sem8 cc0_scratch11 r
/-- The barrier's semaphore. -/
abbrev barS : Sem sig := (SemArray.scalar (sig.barrier 0 rfl) : Sems sig S_).sem

/-- Index of the output semaphore of the own half's chunk `r` and of the peer half's. -/
abbrev loIx (r : Fin 8) : Fin 16 := ⟨r.val, by omega⟩
/-- The place of received chunk `r` among the output copies. -/
abbrev hiIx (r : Fin 8) : Fin 16 := ⟨8 + r.val, by omega⟩

/-! ## The two values -/

/-- Chunk of the partial product: 64 rows of A by B, both rounded to bf16, the product rounded to bf16. -/
def partChunk (b : FVec F S512x1024 .f32) (a : FVec F S64x512 .f32) : FVec F S64x1024 .bf16 := k0_pay2 b a
/-- Chunk of the sum of two partial products. -/
def sumChunk (u v : FVec F S64x1024 .bf16) : FVec F S64x1024 .bf16 := k0_pay17 u v

/-! ## The steps -/

/-- Programs of one core. -/
abbrev P (α : Type) := Prog (TpuEff nD τ sig (Elt F) Λ₀ .tc) α

/-- Copies of a chunk move whole words. -/
abbrev chunkExact (M : Memref sig .tc .vmem S512x1024 .bf16) (h : M.IsWhole) (r : Fin 8) : (chunk M r).view.WordExact :=
  h.wordExact_slice rfl _ (row_words r)
/-- So do copies into the own rows of the output. -/
abbrev outOwnExact (c : Dev nD) (r : Fin 8) : (outOwn c r).view.WordExact :=
  (Memref.isWhole_whole main_v1).wordExact_slice rfl _ (k0_off2_wordsbf16 c r)
/-- So do copies into the other rows. -/
abbrev outPeerExact (c : Dev nD) (r : Fin 8) : (outPeer c r).view.WordExact :=
  (Memref.isWhole_whole main_v1).wordExact_slice rfl _ (k0_off3_wordsbf16 c r)

/-- A whole buffer is whole. -/
theorem whole {b : Ref sig .tc} : (Memref.whole b).IsWhole := Memref.isWhole_whole b

/-- The two handshake signals, then the two loads of the arguments into VMEM. -/
def prologue (c : Dev nD) : P (F := F) PUnit := do
  semSignalWord (⟨k0_dev1 c, k0_dev1_lt c⟩ : Dev nD) barS 1#32
  semSignalWord (⟨k0_dev2 c, k0_dev2_lt c⟩ : Dev nD) barS 1#32
  Prog.lift (.enqueueDma bH (.here bV) (.dma (inS 0)) whole.wordExact whole.wordExact ⟨Or.inl rfl, trivial⟩)
  Prog.lift (.enqueueDma (aHalf c) (.here aV) (.dma (inS 1)) (View.wordExact_bits rfl) whole.wordExact ⟨Or.inl rfl, trivial⟩)
  Prog.lift (.waitDma2 (inS 0) bH bV whole.wordExact whole.wordExact)
  Prog.lift (.waitDma2 (inS 1) (aHalf c) aV (View.wordExact_bits rfl) whole.wordExact)

/-- B as loaded into VMEM. -/
def loadB : P (F := F) (Vec F S512x1024 .f32) :=
  Prog.lift (.load bV (Rect.unit (s := S512x1024) ![0, 0] S512x1024.size inb_S512x1024_S512x1024_0_0).toLoadRect (View.loadsAt_vmem h_S512x1024))

/-- Read chunk `r` of a buffer. -/
def readChunk (M : Memref sig .tc .vmem S512x1024 .bf16) (r : Fin 8) : P (F := F) (Vec F S64x1024 .bf16) :=
  Prog.lift (.load M (rowRect r).toLoadRect (View.loadsAt_vmem h_S64x1024))
/-- Write chunk `r` of a buffer. -/
def writeChunk (M : Memref sig .tc .vmem S512x1024 .bf16) (h : M.IsWhole) (r : Fin 8) (v : FVec F S64x1024 .bf16) : P (F := F) PUnit :=
  Prog.lift (.store M (rowRect r) v Finset.univ (View.stores_vmem h_S64x1024 (h.storeExact_slice rfl _ (row_packed r)) (fun _ => rfl)) (.inl rfl))

/-- Chunk `r` of the partial product computed and stored. -/
def computeX (b : Vec F S512x1024 .f32) (r : Fin 8) : P (F := F) PUnit := do
  let a : Vec F S64x512 .f32 ← Prog.lift (.load aV (Rect.unit (s := S512x512) (row r) S64x512.size (row_inbA r)).toLoadRect (View.loadsAt_vmem h_S64x512))
  let _ ← readChunk xsV r
  writeChunk xsV whole r (partChunk b a)

/-- Chunk `r` of the partial product sent to the x-neighbour. -/
def sendX (c : Dev nD) (r : Fin 8) : P (F := F) PUnit :=
  Prog.lift (.enqueueDma (chunk xsV r) (.remote (Dev.tc (⟨k0_dev3 c, k0_dev3_lt c⟩ : Dev nD)) (chunk xrV r) (.dma (xsS r))) (.dma (xrS r))
    (chunkExact xsV whole r) (chunkExact xrV whole r) ⟨⟨rfl, Or.inl rfl⟩, trivial⟩)

/-- Wait for chunk `r` from the x-neighbour. -/
def recvX (r : Fin 8) : P (F := F) PUnit :=
  Prog.lift (.waitDma2 (xrS r) (chunk xsV r) (chunk xrV r) (chunkExact xsV whole r) (chunkExact xrV whole r))

/-- The two partial products' chunk `r` added and stored. -/
def addX (r : Fin 8) : P (F := F) PUnit := do
  let u ← readChunk xsV r
  let v ← readChunk xrV r
  let _ ← readChunk ysV r
  writeChunk ysV whole r (sumChunk u v)

/-- Send chunk `r` of the sums to the y-neighbour. -/
def sendY (c : Dev nD) (r : Fin 8) : P (F := F) PUnit :=
  Prog.lift (.enqueueDma (chunk ysV r) (.remote (Dev.tc (⟨k0_dev11 c, k0_dev11_lt c⟩ : Dev nD)) (chunk yrV r) (.dma (ysS r))) (.dma (yrS r))
    (chunkExact ysV whole r) (chunkExact yrV whole r) ⟨⟨rfl, Or.inl rfl⟩, trivial⟩)

/-- Copy chunk `r` of the sums into the output. -/
def copyOwn (c : Dev nD) (r : Fin 8) : P (F := F) PUnit :=
  Prog.lift (.enqueueDma (chunk ysV r) (.here (outOwn c r)) (.dma (outS (loIx r))) (chunkExact ysV whole r) (outOwnExact c r) ⟨Or.inl rfl, trivial⟩)

/-- Wait for chunk `r` from the y-neighbour. -/
def recvY (r : Fin 8) : P (F := F) PUnit :=
  Prog.lift (.waitDma2 (yrS r) (chunk ysV r) (chunk yrV r) (chunkExact ysV whole r) (chunkExact yrV whole r))

/-- Copy received chunk `r` into the output. -/
def copyPeer (c : Dev nD) (r : Fin 8) : P (F := F) PUnit :=
  Prog.lift (.enqueueDma (chunk yrV r) (.here (outPeer c r)) (.dma (outS (hiIx r))) (chunkExact yrV whole r) (outPeerExact c r) ⟨Or.inl rfl, trivial⟩)

/-- Wait for the copy of own chunk `r`. -/
def waitOwn (c : Dev nD) (r : Fin 8) : P (F := F) PUnit :=
  Prog.lift (.waitDma2 (outS (loIx r)) (chunk ysV r) (outOwn c r) (chunkExact ysV whole r) (outOwnExact c r))
/-- Wait for the copy of received chunk `r`. -/
def waitPeer (c : Dev nD) (r : Fin 8) : P (F := F) PUnit :=
  Prog.lift (.waitDma2 (outS (hiIx r)) (chunk yrV r) (outPeer c r) (chunkExact yrV whole r) (outPeerExact c r))

/-- Wait until chunk `r` has gone out along x. -/
def waitSentX (r : Fin 8) : P (F := F) PUnit :=
  Prog.lift (.waitDma2 (xsS r) (chunk xrV r) (chunk xsV r) (chunkExact xrV whole r) (chunkExact xsV whole r))
/-- Wait until chunk `r` has gone out along y. -/
def waitSentY (r : Fin 8) : P (F := F) PUnit :=
  Prog.lift (.waitDma2 (ysS r) (chunk yrV r) (chunk ysV r) (chunkExact yrV whole r) (chunkExact ysV whole r))

/-- A step at each listed chunk, in order. -/
def steps (f : Fin 8 → P (F := F) PUnit) : List (Fin 8) → P (F := F) PUnit
  | [] => pure ⟨⟩
  | r :: l => do f r; steps f l

/-- All eight chunks. -/
abbrev all8 : List (Fin 8) := [0, 1, 2, 3, 4, 5, 6, 7]

/-- First step of chunk `r`: compute and send along x. -/
def stepX (b : Vec F S512x1024 .f32) (c : Dev nD) (r : Fin 8) : P (F := F) PUnit := do computeX b r; sendX c r
/-- Middle step of chunk `r`: receive, add, send along y, copy out. -/
def stepY (c : Dev nD) (r : Fin 8) : P (F := F) PUnit := do recvX r; addX r; sendY c r; copyOwn c r
/-- Last step of chunk `r`: receive along y and copy out. -/
def stepOut (c : Dev nD) (r : Fin 8) : P (F := F) PUnit := do recvY r; copyPeer c r
/-- The waits for the sends of chunk `r`. -/
def stepSent (r : Fin 8) : P (F := F) PUnit := do waitSentX r; waitSentY r

/-- The whole kernel body. -/
def body : P (F := F) PUnit := do
  let c : Dev nD ← Prog.lift .deviceId
  prologue c
  let b ← loadB
  computeX b 0
  semWaitWord barS 2#32
  sendX c 0
  steps (stepX b c) [1, 2, 3, 4, 5, 6, 7]
  steps (stepY c) all8
  steps (stepOut c) all8
  steps (waitOwn c) all8
  steps (waitPeer c) all8
  steps stepSent all8

set_option maxRecDepth 65536 in
set_option maxHeartbeats 4000000 in
/-- The printed body is the restated one. -/
theorem body_eq (t : Fin cfg0.N) : bodyAt0 (F := F) t = body (F := F) := by
  unfold bodyAt0
  rw [cc0_body_eq_skeleton]
  rfl

end Cert.KernelIdealProof

end
-- ==== Proof.KernelIdealProtocol.lean ====
/-
The protocol between the four devices. Device `c = 2x + y` has an x-neighbour `px c` and a y-neighbour `py c`.
Each signals both neighbours' barrier semaphore; the signal hands over the receive buffer that neighbour will write.
Then chunks of the partial product travel along x, chunks of the sums along y, and every copy's semaphore carries one
round with one duty, whose payload says what the copied rows hold.
-/
module

public import proofs.«01_k».proof.Proof.KernelIdealSteps
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch library's copy of the rounds algebra and this protocol's own, with duties `Bool`. -/
abbrev UB : Type := URounds (GSem nD τ sig) Bool
/-- The ghost state: the launch's rounds and the kernel's. -/
abbrev UU : Type := UR sig nD τ × UB

local notation "𝕄" => MT nD τ sig Unit (Elt F) ℕ UU ℕ

/-- The launch's part of it. -/
abbrev EP : Emb (UR sig nD τ) (MT nD τ sig Unit (Elt F) ℕ UU ℕ) := embL
/-- The kernel's part of it. -/
abbrev ER : Emb UB (MT nD τ sig Unit (Elt F) ℕ UU ℕ) := embR

variable (m : (ℓ : Loc nD τ sig) → Buf (Elt F) ℓ)

/-! ## The mesh -/

set_option backward.proofsInPublic true in
/-- The neighbour along x: the device with the other half of the contracted dimension and the same rows. -/
def px (c : Dev nD) : Dev nD := ⟨(c.val % 2 + 2) - 2 * (c.val / 2), by have : c.val < 4 := c.isLt; show _ < 4; omega⟩
set_option backward.proofsInPublic true in
/-- The neighbour along y: the device that computes the other 512 rows. -/
def py (c : Dev nD) : Dev nD := ⟨(2 * (c.val / 2) + 1) - c.val % 2, by have : c.val < 4 := c.isLt; show _ < 4; omega⟩
set_option backward.proofsInPublic true in
/-- The device of `c`'s column that computes half `h` of the rows. -/
def half (c : Dev nD) (h : ℕ) : Dev nD := ⟨(2 * (c.val / 2) + h % 2), by have : c.val < 4 := c.isLt; show _ < 4; omega⟩

/-- The x-neighbour's x-neighbour is the device. -/
theorem px_px (c : Dev nD) : px (px c) = c := by revert c; decide
/-- The y-neighbour's y-neighbour is the device. -/
theorem py_py (c : Dev nD) : py (py c) = c := by revert c; decide
/-- The first signal goes to the x-neighbour. -/
theorem dev1_eq (c : Dev nD) : (⟨k0_dev1 c, k0_dev1_lt c⟩ : Dev nD) = px c := Fin.ext (k0_dev1_eq c)
/-- The second signal goes to the y-neighbour. -/
theorem dev2_eq (c : Dev nD) : (⟨k0_dev2 c, k0_dev2_lt c⟩ : Dev nD) = py c := Fin.ext (k0_dev2_eq c)
/-- The first exchange is with the x-neighbour. -/
theorem dev3_eq (c : Dev nD) : (⟨k0_dev3 c, k0_dev3_lt c⟩ : Dev nD) = px c := Fin.ext (k0_dev3_eq c)
/-- The second exchange is with the y-neighbour. -/
theorem dev11_eq (c : Dev nD) : (⟨k0_dev11 c, k0_dev11_lt c⟩ : Dev nD) = py c := Fin.ext (k0_dev11_eq c)

/-! ## Contents -/

/-- The A and B blocks device `c` was given. -/
def Ac (c : Dev nD) : (main_arg0 : Ref sig .tc).ty.Contents (Elt F) := m ((c : Thread nD τ).loc main_arg0)
/-- The device's B. -/
def Bc (c : Dev nD) : (main_arg1 : Ref sig .tc).ty.Contents (Elt F) := m ((c : Thread nD τ).loc main_arg1)
/-- The half of its A block it works on. -/
def aC (c : Dev nD) : (cc0_scratch0 : Ref sig .tc).ty.Contents (Elt F) := (aHalf c).view.read (Elt F) (Ac m c)
/-- Chunk `r`'s rows of that half. -/
def aRows (c : Dev nD) (r : Fin 8) : FVec F S64x512 .f32 :=
  aV.view.readAt (Elt F) (Rect.unit (s := S512x512) (row r) S64x512.size (row_inbA r)).toLoadRect (aC m c)
/-- Chunk `r` of device `c`'s partial product, and of the sum of its own and its x-neighbour's. -/
def part (c : Dev nD) (r : Fin 8) : FVec F S64x1024 .bf16 := partChunk (Bc m c) (aRows m c r)
/-- Chunk `r` of the sum with the x-neighbour. -/
def sumC (c : Dev nD) (r : Fin 8) : FVec F S64x1024 .bf16 := sumChunk (part m c r) (part m (px c) r)

/-- The index within a chunk of an index of a buffer of whole chunks. -/
def inChunk {s : Shape} (hs : s.rank = 2) (i : s.Idx) : S64x1024.Idx := fun a =>
  ⟨(i (a.cast hs.symm)).val % S64x1024.size a, Nat.mod_lt _ (by revert a; decide)⟩

/-- Eight chunks stacked to 512 rows. -/
def stack (v : Fin 8 → FVec F S64x1024 .bf16) : S512x1024.Idx → Elt F .bf16 := fun i =>
  v ⟨(i (0 : Fin 2)).val / 64, by have : (i (0 : Fin 2)).val < 512 := (i (0 : Fin 2)).isLt; omega⟩ (inChunk rfl i)

/-- The output: half `h` of the rows is the sums of the column's device `half c h`. -/
def outC (c : Dev nD) : (main_v1 : Ref sig .tc).ty.Contents (Elt F) := fun i =>
  sumC m (half c ((i (0 : Fin 2)).val / 512)) ⟨(i (0 : Fin 2)).val % 512 / 64, by omega⟩ (inChunk (s := S1024x1024) rfl i)

/-- The rows of chunk `r` in a stack of chunks are chunk `r`. -/
theorem stack_emb (v : Fin 8 → FVec F S64x1024 .bf16) (r : Fin 8) (j : S64x1024.Idx) : stack v ((rowRect r).emb j) = v r j := by
  have h0 : (((rowRect r).emb j) (0 : Fin 2)).val = 64 * r.val + (j (0 : Fin 2)).val := by
    show 64 * r.val + 1 * (j (0 : Fin 2)).val = _; omega
  have h1 : (((rowRect r).emb j) (1 : Fin 2)).val = (j (1 : Fin 2)).val := by show 0 + 1 * (j (1 : Fin 2)).val = _; omega
  have hj : (j (0 : Fin 2)).val < 64 := (j (0 : Fin 2)).isLt
  have hj1 : (j (1 : Fin 2)).val < 1024 := (j (1 : Fin 2)).isLt
  unfold stack
  refine congr (congrArg v (Fin.ext ?_)) (funext fun a => Fin.ext ?_)
  · show (((rowRect r).emb j) (0 : Fin 2)).val / 64 = r.val; omega
  · match a with
    | ⟨0, _⟩ => show (((rowRect r).emb j) (0 : Fin 2)).val % 64 = (j (0 : Fin 2)).val; omega
    | ⟨1, _⟩ => show (((rowRect r).emb j) (1 : Fin 2)).val % 1024 = (j (1 : Fin 2)).val; omega

/-- Reading chunk `r` of a buffer of stacked chunks gives chunk `r`: for each of the four buffers. -/
theorem read_xs (v : Fin 8 → FVec F S64x1024 .bf16) (r : Fin 8) : (chunk xsV r).view.read (Elt F) (stack v) = v r := funext fun j => stack_emb v r j
/-- Chunk `r` of the buffer that receives along x, when it holds a stack. -/
theorem read_xr (v : Fin 8 → FVec F S64x1024 .bf16) (r : Fin 8) : (chunk xrV r).view.read (Elt F) (stack v) = v r := funext fun j => stack_emb v r j
/-- Chunk `r` of the buffer of sums, when it holds a stack. -/
theorem read_ys (v : Fin 8 → FVec F S64x1024 .bf16) (r : Fin 8) : (chunk ysV r).view.read (Elt F) (stack v) = v r := funext fun j => stack_emb v r j
/-- Chunk `r` of the buffer that receives along y, when it holds a stack. -/
theorem read_yr (v : Fin 8 → FVec F S64x1024 .bf16) (r : Fin 8) : (chunk yrV r).view.read (Elt F) (stack v) = v r := funext fun j => stack_emb v r j

/-- The output at row `512 h + 64 r + j`, `h` the half of device `d` of `c`'s column, is `d`'s sum. -/
theorem outC_at (c d : Dev nD) (h : ℕ) (hh : h < 2) (hd : half c h = d) (r : Fin 8) (j : S64x1024.Idx) (i : S1024x1024.Idx)
    (h0 : (i (0 : Fin 2)).val = 512 * h + 64 * r.val + (j (0 : Fin 2)).val) (h1 : (i (1 : Fin 2)).val = (j (1 : Fin 2)).val) :
    outC m c i = sumC m d r j := by
  have hj : (j (0 : Fin 2)).val < 64 := (j (0 : Fin 2)).isLt
  have hj1 : (j (1 : Fin 2)).val < 1024 := (j (1 : Fin 2)).isLt
  have hr : r.val < 8 := r.isLt
  unfold outC
  refine congr (congr (congrArg (sumC m) ?_) (Fin.ext ?_)) (funext fun a => Fin.ext ?_)
  · rw [← hd]; congr 1; omega
  · show (i (0 : Fin 2)).val % 512 / 64 = r.val; omega
  · match a with
    | ⟨0, _⟩ => show (i (0 : Fin 2)).val % 64 = (j (0 : Fin 2)).val; omega
    | ⟨1, _⟩ => show (i (1 : Fin 2)).val % 1024 = (j (1 : Fin 2)).val; omega

/-- The half of the rows that the device computes is its own. -/
theorem half_own (c : Dev nD) : half c (c.val % 2) = c := by revert c; decide
/-- The other half is the y-neighbour's. -/
theorem half_peer (c : Dev nD) : half c (1 - c.val % 2) = py c := by revert c; decide

/-- The device's own rows of the output are its sums. -/
theorem read_own (c : Dev nD) (r : Fin 8) : (outOwn c r).view.read (Elt F) (outC m c) = sumC m c r := funext fun j => by
  have hc : c.val % 2 < 2 := Nat.mod_lt _ (by decide)
  refine outC_at m c c (c.val % 2) hc (half_own c) r j _ ?_ ?_
  · show k0_off2 c (BitVec.ofNat 32 (64 * r.val)) (0 : Fin 2) + 1 * (j (0 : Fin 2)).val = _
    rw [k0_off2_eq c r]; show 512 * (c.val % 2) + 64 * r.val + 1 * (j (0 : Fin 2)).val = _; omega
  · show k0_off2 c (BitVec.ofNat 32 (64 * r.val)) (1 : Fin 2) + 1 * (j (1 : Fin 2)).val = _
    rw [k0_off2_eq c r]; show 0 + 1 * (j (1 : Fin 2)).val = _; omega

/-- The other rows of the output are the y-neighbour's sums. -/
theorem read_peer (c : Dev nD) (r : Fin 8) : (outPeer c r).view.read (Elt F) (outC m c) = sumC m (py c) r := funext fun j => by
  have hc : c.val % 2 < 2 := Nat.mod_lt _ (by decide)
  refine outC_at m c (py c) (1 - c.val % 2) (by omega) (half_peer c) r j _ ?_ ?_
  · show k0_off3 c (BitVec.ofNat 32 (64 * r.val)) (0 : Fin 2) + 1 * (j (0 : Fin 2)).val = _
    rw [k0_off3_eq c r]; show (64 * r.val + 512) - 512 * (c.val % 2) + 1 * (j (0 : Fin 2)).val = _; omega
  · show k0_off3 c (BitVec.ofNat 32 (64 * r.val)) (1 : Fin 2) + 1 * (j (1 : Fin 2)).val = _
    rw [k0_off3_eq c r]; show 0 + 1 * (j (1 : Fin 2)).val = _; omega

/-! ## Pieces of buffers -/

/-- Device `c` holds the elements under a memref, at a share, with contents `f`. -/
def pts {sp : Space} {s : Shape} {e : EltTy} (c : Dev nD) (V : Memref sig .tc sp s e) (q : PosShare TreeShare)
    (f : Buf (Elt F) (V.view.loc (c : Thread nD τ))) : sProp 𝕄 :=
  V.view.loc (c : Thread nD τ) ↦[V.view.set]{q} f
/-- The same at contents not named. -/
def some {sp : Space} {s : Shape} {e : EltTy} (c : Dev nD) (V : Memref sig .tc sp s e) : sProp 𝕄 := iprop(∃ f, pts c V fullShare f)

/-- Holding a piece of a buffer can be kept in an invariant. -/
instance pts_storable {sp : Space} {s : Shape} {e : EltTy} (c : Dev nD) (V : Memref sig .tc sp s e) (q : PosShare TreeShare)
    (f : Buf (Elt F) (V.view.loc (c : Thread nD τ))) : BI.Storable (upEmb : UEmb _ 𝕄) (pts (F := F) c V q f) := by unfold pts; infer_instance
/-- So can holding it with unknown contents. -/
instance some_storable {sp : Space} {s : Shape} {e : EltTy} (c : Dev nD) (V : Memref sig .tc sp s e) :
    BI.Storable (upEmb : UEmb _ 𝕄) (some (F := F) c V) := by unfold some; infer_instance

/-- A piece written with `w` holds any contents that read as `w` there. -/
theorem pts_write {sp : Space} {s : Shape} {e : EltTy} (c : Dev nD) (V : Memref sig .tc sp s e) (q : PosShare TreeShare)
    (f g : Buf (Elt F) (V.view.loc (c : Thread nD τ))) (w : s.Idx → Elt F e) (h : V.view.read (Elt F) g = w) :
    (V.view.loc (c : Thread nD τ) ↦[V.view.set]{q} V.view.write (Elt F) f w Finset.univ : sProp 𝕄) = pts c V q g := by
  unfold pts
  refine pointsTo_congr fun i hi => ?_
  obtain ⟨x, -, rfl⟩ := Finset.mem_map.mp hi
  rw [View.write_emb_of_mem _ _ (Finset.mem_univ _), ← h]
  unfold View.read
  rw [cast_cast, cast_eq]

/-- The two halves of a share of a piece. -/
theorem pts_halves {sp : Space} {s : Shape} {e : EltTy} (c : Dev nD) (V : Memref sig .tc sp s e) (q : PosShare TreeShare)
    (f : Buf (Elt F) (V.view.loc (c : Thread nD τ))) : (pts c V q f : sProp 𝕄) ⊣⊢ iprop(pts c V q.left f ∗ pts c V q.right f) :=
  pointsTo_share (PosShare.mem_left_op_right q)

/-! ## The schedule -/

/-- What a copy's semaphore carries, by the semaphore's place among the fifty. -/
abbrev xsPay (c : Dev nD) (r : Fin 8) : sProp 𝕄 := pts c (chunk xsV r) fullShare.left (stack (part m c))
/-- A landing along x: the x-neighbour's partial chunk. -/
abbrev xrPay (c : Dev nD) (r : Fin 8) : sProp 𝕄 := pts c (chunk xrV r) fullShare (stack (part m (px c)))
/-- The end of a send along y: the half share of the sums that was lent to it. -/
abbrev ysPay (c : Dev nD) (r : Fin 8) : sProp 𝕄 := pts c (chunk ysV r) fullShare.left (stack (sumC m c))
/-- A landing along y: the y-neighbour's chunk of sums. -/
abbrev yrPay (c : Dev nD) (r : Fin 8) : sProp 𝕄 := pts c (chunk yrV r) fullShare (stack (sumC m (py c)))
/-- The end of a copy of an own chunk into the output: rows written, source given back. -/
abbrev ownPay (c : Dev nD) (r : Fin 8) : sProp 𝕄 :=
  iprop(pts c (outOwn c r) fullShare (outC m c) ∗ pts c (chunk ysV r) fullShare.right (stack (sumC m c)))
/-- The end of a copy of a received chunk into the output: rows written, source given back. -/
abbrev peerPay (c : Dev nD) (r : Fin 8) : sProp 𝕄 :=
  iprop(pts c (outPeer c r) fullShare (outC m c) ∗ pts c (chunk yrV r) fullShare (stack (sumC m (py c))))
/-- The end of the load of B. -/
abbrev bPay (c : Dev nD) : sProp 𝕄 := iprop(pts c bV fullShare (Bc m c) ∗ pts c bH fullShare (Bc m c))
/-- The end of the load of the device's rows of A. -/
abbrev aPay (c : Dev nD) : sProp 𝕄 := iprop(pts c aV fullShare (aC m c) ∗ pts c (aHalf c) fullShare (Ac m c))

/-- The chunk a semaphore of the arrays of eight belongs to, and which array it is in. -/
def ixOf (s : DmaSem sig) : Fin 8 := ⟨(s.val - 2) % 8, Nat.mod_lt _ (by decide)⟩
/-- The array that a semaphore belongs to. -/
def arrOf (s : DmaSem sig) : ℕ := if s.val = 0 then 0 else if s.val = 1 then 1 else 2 + (s.val - 2) / 8

/-- What the copy that credits a semaphore hands over. -/
def dmaPay (c : Dev nD) (s : DmaSem sig) : sProp 𝕄 :=
  match arrOf s with
  | 0 => bPay m c
  | 1 => aPay m c
  | 2 => ownPay m c (ixOf s)
  | 3 => peerPay m c (ixOf s)
  | 4 => xsPay m c (ixOf s)
  | 5 => xrPay m c (ixOf s)
  | 6 => ysPay m c (ixOf s)
  | _ => yrPay m c (ixOf s)

/-- Where the semaphore of B's load lies. -/
theorem place_b : arrOf (inS 0) = 0 := by decide
/-- Where the semaphore of A's load lies. -/
theorem place_a : arrOf (inS 1) = 1 := by decide
/-- Where the semaphores of the own output copies lie. -/
theorem place_own : ∀ r : Fin 8, arrOf (outS (loIx r)) = 2 ∧ ixOf (outS (loIx r)) = r := by decide
/-- Where the semaphores of the received output copies lie. -/
theorem place_peer : ∀ r : Fin 8, arrOf (outS (hiIx r)) = 3 ∧ ixOf (outS (hiIx r)) = r := by decide
/-- Where the send semaphores along x lie. -/
theorem place_xs : ∀ r : Fin 8, arrOf (xsS r) = 4 ∧ ixOf (xsS r) = r := by decide
/-- Where the receive semaphores along x lie. -/
theorem place_xr : ∀ r : Fin 8, arrOf (xrS r) = 5 ∧ ixOf (xrS r) = r := by decide
/-- Where the send semaphores along y lie. -/
theorem place_ys : ∀ r : Fin 8, arrOf (ysS r) = 6 ∧ ixOf (ysS r) = r := by decide
/-- Where the receive semaphores along y lie. -/
theorem place_yr : ∀ r : Fin 8, arrOf (yrS r) = 7 ∧ ixOf (yrS r) = r := by decide

/-- A chunk's credit, and each semaphore's. -/
def N : ℕ := (chunk xsV 0).view.dmaCredit
/-- How much a copy credits its semaphore. -/
def amt (s : DmaSem sig) : ℕ := match arrOf s with | 0 => bV.view.dmaCredit | 1 => aV.view.dmaCredit | _ => N
/-- Every copy credits something. -/
theorem amt_pos (s : DmaSem sig) : 0 < amt s := by
  unfold amt; split
  · exact View.dmaCredit_pos _ (by decide)
  · exact View.dmaCredit_pos _ (by decide)
  · exact View.dmaCredit_pos _ (by decide)

/-- The x-neighbour's signal hands over its receive buffer for partial products, the y-neighbour's the one for sums. -/
def barPay (c : Dev nD) (d : Bool) : sProp 𝕄 :=
  if d then some (py c) yrV else some (px c) xrV

/-- One round on every TensorCore semaphore: the barrier with a duty for each neighbour, a copy's semaphore with one. -/
def rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => amt s
  payload g _ d := match g.2 with | .reg _ => barPay g.1.1 d | .dma s => dmaPay m g.1.1 s
  amount_pos g _ _ _ := by
    cases g.2 with
    | reg _ => exact Nat.one_pos
    | dma s => exact amt_pos s

/-- What a copy hands over can be kept in an invariant. -/
instance dmaPay_storable (c : Dev nD) (s : DmaSem sig) : BI.Storable (upEmb : UEmb _ 𝕄) (dmaPay m c s) := by
  unfold dmaPay; split <;> infer_instance
/-- So can what a signal hands over. -/
instance barPay_storable (c : Dev nD) (d : Bool) : BI.Storable (upEmb : UEmb _ 𝕄) (barPay (F := F) c d) := by
  unfold barPay; split <;> infer_instance
/-- So can every payload of the schedule. -/
instance rd_payload_storable (g : GSem nD τ sig) (r : ℕ) (d : Bool) : BI.Storable (upEmb : UEmb _ 𝕄) ((rd m).payload g r d) := by
  obtain ⟨t, sm⟩ := g
  cases sm with
  | reg s => exact barPay_storable t.1 d
  | dma s => exact dmaPay_storable m t.1 s

/-- The counter of semaphore `sm` on device `c`. -/
abbrev cell (c : Dev nD) (sm : SemLoc sig) : GSem nD τ sig := ((c : Thread nD τ), sm)

/-- The barrier is signalled by two neighbours. -/
theorem duties_bar (c : Dev nD) : (rd m).duties (cell c (.reg barS)) 0 = Finset.univ := by dsimp only [rd]; exact if_pos ⟨rfl, rfl⟩
/-- Every other semaphore is credited once. -/
theorem duties_dma (c : Dev nD) (s : DmaSem sig) : (rd m).duties (cell c (.dma s)) 0 = {false} := by dsimp only [rd]; exact if_pos ⟨rfl, rfl⟩
/-- Nothing is due after the first round. -/
theorem duties_later (g : GSem nD τ sig) : ∀ r, 1 ≤ r → (rd m).duties g r = ∅ := fun r hr => if_neg fun h => by omega
/-- Each signal counts one. -/
theorem amount_bar (c : Dev nD) (d : Bool) : (rd m).amount (cell c (.reg barS)) 0 d = 1 := rfl
/-- Each copy counts what it carries. -/
theorem amount_dma (c : Dev nD) (s : DmaSem sig) (d : Bool) : (rd m).amount (cell c (.dma s)) 0 d = amt s := rfl
/-- The barrier expects two. -/
theorem expect_bar (c : Dev nD) : (rd m).expect (cell c (.reg barS)) 0 = 2 := by
  unfold Schedule.expect Schedule.amountOf
  rw [duties_bar, Finset.sum_congr rfl fun d _ => amount_bar m c d, Finset.sum_const, Finset.card_univ, Fintype.card_bool, smul_eq_mul]
/-- Every other semaphore expects its one copy. -/
theorem expect_dma (c : Dev nD) (s : DmaSem sig) : (rd m).expect (cell c (.dma s)) 0 = amt s := by
  unfold Schedule.expect Schedule.amountOf; rw [duties_dma, Finset.sum_singleton, amount_dma]
/-- The barrier hands over the neighbours' receiving buffers. -/
theorem rest_bar (c : Dev nD) :
    bigSep ((rd m).duties (cell c (.reg barS)) 0 \ ∅) (fun d => (rd m).payload (cell c (.reg barS)) 0 d)
      = iprop(some (px c) xrV ∗ some (py c) yrV) := by
  rw [Finset.sdiff_empty, duties_bar, bigSep_univ_eq_bigSepL [false, true] (by decide) (by decide), bigSepL_cons_cons, bigSepL_singleton]
  rfl
/-- Every other semaphore hands over what its copy does. -/
theorem rest_dma (c : Dev nD) (s : DmaSem sig) :
    bigSep ((rd m).duties (cell c (.dma s)) 0 \ ∅) (fun d => (rd m).payload (cell c (.dma s)) 0 d) = dmaPay m c s := by
  rw [Finset.sdiff_empty, duties_dma, bigSep_singleton]; rfl

/-- The payload and the credit of each array's semaphores. -/
theorem pay_b (c : Dev nD) : dmaPay m c (inS 0) = bPay m c := by unfold dmaPay; rw [place_b]; rfl
/-- A's load hands over `aPay`. -/
theorem pay_a (c : Dev nD) : dmaPay m c (inS 1) = aPay m c := by unfold dmaPay; rw [place_a]; rfl
/-- An own output copy hands over `ownPay`. -/
theorem pay_own (c : Dev nD) (r : Fin 8) : dmaPay m c (outS (loIx r)) = ownPay m c r := by unfold dmaPay; rw [(place_own r).1, (place_own r).2]; rfl
/-- A received output copy hands over `peerPay`. -/
theorem pay_peer (c : Dev nD) (r : Fin 8) : dmaPay m c (outS (hiIx r)) = peerPay m c r := by unfold dmaPay; rw [(place_peer r).1, (place_peer r).2]; rfl
/-- A send along x hands over `xsPay`. -/
theorem pay_xs (c : Dev nD) (r : Fin 8) : dmaPay m c (xsS r) = xsPay m c r := by unfold dmaPay; rw [(place_xs r).1, (place_xs r).2]; rfl
/-- A landing along x hands over `xrPay`. -/
theorem pay_xr (c : Dev nD) (r : Fin 8) : dmaPay m c (xrS r) = xrPay m c r := by unfold dmaPay; rw [(place_xr r).1, (place_xr r).2]; rfl
/-- A send along y hands over `ysPay`. -/
theorem pay_ys (c : Dev nD) (r : Fin 8) : dmaPay m c (ysS r) = ysPay m c r := by unfold dmaPay; rw [(place_ys r).1, (place_ys r).2]; rfl
/-- A landing along y hands over `yrPay`. -/
theorem pay_yr (c : Dev nD) (r : Fin 8) : dmaPay m c (yrS r) = yrPay m c r := by unfold dmaPay; rw [(place_yr r).1, (place_yr r).2]; rfl
/-- B's load credits the whole of B. -/
theorem amt_b : amt (inS 0) = bV.view.dmaCredit := by unfold amt; rw [place_b]; rfl
/-- A's load credits the whole of the device's rows. -/
theorem amt_a : amt (inS 1) = aV.view.dmaCredit := by unfold amt; rw [place_a]; rfl
/-- An own output copy credits one chunk. -/
theorem amt_own (r : Fin 8) : amt (outS (loIx r)) = N := by unfold amt; rw [(place_own r).1]; rfl
/-- A received output copy credits one chunk. -/
theorem amt_peer (r : Fin 8) : amt (outS (hiIx r)) = N := by unfold amt; rw [(place_peer r).1]; rfl
/-- A send along x credits one chunk. -/
theorem amt_xs (r : Fin 8) : amt (xsS r) = N := by unfold amt; rw [(place_xs r).1]; rfl
/-- A landing along x credits one chunk. -/
theorem amt_xr (r : Fin 8) : amt (xrS r) = N := by unfold amt; rw [(place_xr r).1]; rfl
/-- A send along y credits one chunk. -/
theorem amt_ys (r : Fin 8) : amt (ysS r) = N := by unfold amt; rw [(place_ys r).1]; rfl
/-- A landing along y credits one chunk. -/
theorem amt_yr (r : Fin 8) : amt (yrS r) = N := by unfold amt; rw [(place_yr r).1]; rfl

/-! ## What each device owes; the levels -/

/-- The credits of the listed chunks owed to a neighbour's semaphores `S`. -/
def owed (S : Fin 8 → DmaSem sig) (d : Dev nD) : List (Fin 8) → CellTallies nD τ sig Unit
  | [] => 0
  | r :: l => owed S d l + tallyAt (cell d (.dma (S r))) () N

/-- The landings along y that are still owed. -/
abbrev OY (c : Dev nD) (l : List (Fin 8)) : CellTallies nD τ sig Unit := owed yrS (py c) l
/-- The landings still owed while sending along x. -/
abbrev OX (c : Dev nD) (l : List (Fin 8)) : CellTallies nD τ sig Unit := OY c all8 + owed xrS (px c) l
/-- After the signal to the x-neighbour, and at launch. -/
def O₁ (c : Dev nD) : CellTallies nD τ sig Unit := OX c all8 + tallyAt (cell (py c) (.reg barS)) () 1
/-- All that a device owes at the start. -/
def O₀ (c : Dev nD) : CellTallies nD τ sig Unit := O₁ c + tallyAt (cell (px c) (.reg barS)) () 1

/-- Only the cores' counters have a level. -/
def L (g : GSem nD τ sig) : Finset Unit := if g.1.2 = .tc then {()} else ∅
/-- Local copies and sends at 0, the barrier at 1, the receives along x at 2, along y at 3. -/
def lvS : SemLoc sig → ℕ
  | .reg _ => 1
  | .dma s => match arrOf s with | 5 => 2 | 7 => 3 | _ => 0
/-- The level of a counter is that of its semaphore. -/
def lv (g : GSem nD τ sig) (_ : Unit) : ℕ := lvS g.2

/-- No level off the cores. -/
theorem L_of_ne (g : GSem nD τ sig) (h : g.1.2 ≠ .tc) : L g = ∅ := if_neg h
/-- One level on a core's counter. -/
theorem L_tc (c : Dev nD) (sm : SemLoc sig) : L (cell c sm) = {()} := if_pos rfl
/-- Landings along x lie at level two. -/
theorem lv_xr (r : Fin 8) : lvS (.dma (xrS r)) = 2 := by unfold lvS; simp only [(place_xr r).1]
/-- Landings along y lie at level three. -/
theorem lv_yr (r : Fin 8) : lvS (.dma (yrS r)) = 3 := by unfold lvS; simp only [(place_yr r).1]

/-- Everything owed is to a TensorCore semaphore at level above `b`. -/
def Above (b : ℕ) (O : CellTallies nD τ sig Unit) : Prop := ∀ g u, 0 < O g u → g.1.2 = .tc ∧ b < lvS g.2

/-- Owing nothing is above any level. -/
theorem above_zero (b : ℕ) : Above b 0 := fun g u h => absurd h (Nat.lt_irrefl 0)
/-- Owing on one counter is above what lies below that counter. -/
theorem above_at {b : ℕ} {d : Dev nD} {sm : SemLoc sig} {k : ℕ} (h : b < lvS sm) : Above b (tallyAt (cell d sm) () k) := fun g u hg => by
  rw [tallyAt_apply] at hg
  by_cases e : g = cell d sm ∧ u = ()
  · rw [e.1]; exact ⟨rfl, h⟩
  · rw [if_neg e] at hg; exact absurd hg (Nat.lt_irrefl 0)
/-- Owing two things above a level is owing above it. -/
theorem above_add {b : ℕ} {O O' : CellTallies nD τ sig Unit} (h : Above b O) (h' : Above b O') : Above b (O + O') := fun g u hg => by
  rw [Pi.add_apply, Finsupp.add_apply] at hg
  rcases Nat.eq_zero_or_pos (O g u) with e | e
  · exact h' g u (by omega)
  · exact h g u e
/-- Owing a list of chunks above a level. -/
theorem above_owed {b : ℕ} {S : Fin 8 → DmaSem sig} {d : Dev nD} (h : ∀ r, b < lvS (.dma (S r))) : ∀ l, Above b (owed S d l)
  | [] => above_zero b
  | r :: l => above_add (above_owed h l) (above_at (h r))
/-- Landings along y are above every level below three. -/
theorem above_OY {b : ℕ} (hb : b < 3) (c : Dev nD) (l : List (Fin 8)) : Above b (OY c l) := above_owed (fun r => by rw [lv_yr]; exact hb) l
/-- All landings are above every level below two. -/
theorem above_OX {b : ℕ} (hb : b < 2) (c : Dev nD) (l : List (Fin 8)) : Above b (OX c l) :=
  above_add (above_OY (by omega) c all8) (above_owed (fun r => by rw [lv_xr]; exact hb) l)
/-- All that is owed at the start is above level zero. -/
theorem above_O₀ (c : Dev nD) : Above 0 (O₀ c) :=
  above_add (above_add (above_OX (by decide) c all8) (above_at (by decide))) (above_at (by decide))

/-- A device may wait on a semaphore below everything it owes. -/
theorem mayWait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-! ## Ghost state every device shares: the cells' invariants and that their one round is reached -/

/-- What every device knows throughout: the counters' invariants, rounds reached and levels. -/
def records (K : Dev nD × SemLoc sig → ℕ) : sProp 𝕄 :=
  iprop((bigSep Finset.univ fun p : Dev nD × SemLoc sig => cellInv ER (rd m) (K p) (cell p.1 p.2))
    ∗ (bigSep Finset.univ fun p : Dev nD × SemLoc sig => reached ER (cell p.1 p.2) 0) ∗ levAts L lv)

/-- It can be kept and copied. -/
instance records_persistent (K : Dev nD × SemLoc sig → ℕ) : BI.Persistent (records m K) := by unfold records; infer_instance

/-- It gives each counter's invariant. -/
theorem records_inv (K : Dev nD × SemLoc sig → ℕ) (c : Dev nD) (sm : SemLoc sig) :
    records m K ⊢ cellInv ER (rd m) (K (c, sm)) (cell c sm) := by
  unfold records; iintro ⟨H, -⟩; iapply (show (bigSep Finset.univ fun p : Dev nD × SemLoc sig => cellInv ER (rd m) (K p) (cell p.1 p.2)) ⊢ cellInv ER (rd m) (K (c, sm)) (cell c sm) from
    bigSep_elim (Finset.mem_univ (c, sm))); iexact H
/-- It gives that each counter's first round was reached. -/
theorem records_reached (K : Dev nD × SemLoc sig → ℕ) (c : Dev nD) (sm : SemLoc sig) :
    records m K ⊢ (reached ER (cell c sm) 0 : sProp 𝕄) := by
  unfold records; iintro ⟨-, H, -⟩; iapply (show (bigSep Finset.univ fun p : Dev nD × SemLoc sig => (reached ER (cell p.1 p.2) 0 : sProp 𝕄)) ⊢ reached ER (cell c sm) 0 from
    bigSep_elim (Finset.mem_univ (c, sm))); iexact H
/-- It gives the levels. -/
theorem records_lev (K : Dev nD × SemLoc sig → ℕ) : records m K ⊢ (levAts L lv : sProp 𝕄) := by
  unfold records; iintro ⟨-, -, H⟩; iexact H

/-- Its position, its token, its credit, its counter at zero: a semaphore as its owner and its payer hold it. -/
abbrev pos (c : Dev nD) (sm : SemLoc sig) : sProp 𝕄 := atPos ER (cell c sm) 0 ∅ 0
/-- The token of duty `d` on a counter. -/
abbrev tok (c : Dev nD) (sm : SemLoc sig) (d : Bool) : sProp 𝕄 := dutyTok ER (cell c sm) 0 d
/-- A credit for waiting on a counter. -/
abbrev crd (c : Dev nD) (sm : SemLoc sig) (k : ℕ) : sProp 𝕄 := cred (tallyAt (cell c sm) () k)
/-- A counter that is back at zero. -/
abbrev done (c : Dev nD) (sm : SemLoc sig) : sProp 𝕄 := semVal (cell c sm) 0
/-- What device `c` owes, whatever it has waited on. -/
def ow (c : Dev nD) (O : CellTallies nD τ sig Unit) : sProp 𝕄 := iprop(∃ W, owes (c : Thread nD τ) O W)

end Cert.KernelIdealProof

end
-- ==== Proof.KernelIdealOps.lean ====
/-
The protocol's four moves, each stated once for any semaphore: wait on a copy's semaphore, copy within a device, send
to a neighbour; and the loop rule for a list of steps.
-/
module

public import proofs.«01_k».proof.Proof.KernelIdealProtocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- There are no loops whose variants need naming. -/
abbrev 𝒱₀ : Variants := Variants.none

/-- Device `c` may run `p`, ending in `Q`. -/
abbrev Run {α : Type} (c : Dev nD) (p : P (F := F) α) (Q : α → sProp 𝕄) : sProp 𝕄 :=
  wp frame (wpE (defs₀ (F := F)) 𝒱₀ (c : Thread nD τ) none) Set.univ p Q

/-- From `A`, device `c` runs `p` and ends with `B`, in any context. -/
def Step (c : Dev nD) (A : sProp 𝕄) (p : P (F := F) PUnit) (B : sProp 𝕄) : Prop :=
  ∀ Q : PUnit → sProp 𝕄, A ⊢ iprop((B -∗ Q ⟨⟩) -∗ Run c p Q)

/-- Steps in sequence. -/
theorem Step.seq {c : Dev nD} {A B C : sProp 𝕄} {p q : P (F := F) PUnit} (h : Step c A p B) (h' : Step c B q C) :
    Step c A (do p; q) C := fun Q => by
  unfold Run
  rw [wp_bind]
  iintro HA HC
  iapply (h _) $$ HA
  iintro HB
  iapply (h' Q) $$ HB
  iexact HC

/-- A step from more, to less. -/
theorem Step.mono {c : Dev nD} {A A' B B' : sProp 𝕄} {p : P (F := F) PUnit} (h : Step c A p B) (ha : A' ⊢ A) (hb : B ⊢ B') : Step c A' p B' := fun Q => by
  iintro HA HQ
  ihave HA := ha $$ HA
  iapply (h Q) $$ HA
  iintro HB
  ihave HB := hb $$ HB
  iapply HQ; iexact HB

/-- A step leaves alone what it does not mention. -/
theorem Step.frame {c : Dev nD} {A B : sProp 𝕄} {p : P (F := F) PUnit} (h : Step c A p B) (C : sProp 𝕄) : Step c iprop(A ∗ C) p iprop(B ∗ C) := fun Q => by
  iintro ⟨HA, HC⟩ HQ
  iapply (h Q) $$ HA
  iintro HB
  iapply HQ
  isplitl [HB] <;> iassumption

/-- One of each for the listed chunks. -/
def each (Φ : Fin 8 → sProp 𝕄) : List (Fin 8) → sProp 𝕄
  | [] => iprop(emp)
  | r :: l => iprop(Φ r ∗ each Φ l)

/-- Chunk by chunk. -/
theorem each_mono {Φ Ψ : Fin 8 → sProp 𝕄} (h : ∀ r, Φ r ⊢ Ψ r) : ∀ l, each Φ l ⊢ each Ψ l
  | [] => .rfl
  | r :: l => BI.sep_mono (h r) (each_mono h l)

/-- The conjunction of pairs is the pair of conjunctions. -/
theorem each_sep (Φ Ψ : Fin 8 → sProp 𝕄) : ∀ l, each (fun r => iprop(Φ r ∗ Ψ r)) l ⊣⊢ iprop(each Φ l ∗ each Ψ l)
  | [] => ⟨by unfold each; iintro -; isplitl <;> iempintro, by unfold each; iintro -; iempintro⟩
  | r :: l => ⟨by
      unfold each
      iintro ⟨⟨H1, H2⟩, H⟩
      ihave H := (each_sep Φ Ψ l).1 $$ H
      icases H with ⟨H3, H4⟩
      isplitl [H1 H3]
      · isplitl [H1] <;> iassumption
      isplitl [H2] <;> iassumption, by
      unfold each
      iintro ⟨⟨H1, H3⟩, H2, H4⟩
      isplitl [H1 H2]
      · isplitl [H1] <;> iassumption
      iapply (each_sep Φ Ψ l).2
      isplitl [H3] <;> iassumption⟩

/-- The conjunction over all chunks, as a list. -/
theorem each_all (Φ : Fin 8 → sProp 𝕄) : bigSep Finset.univ Φ = each Φ all8 := by
  rw [bigSep_univ_eq_bigSepL all8 (by decide) (by decide)]
  simp only [all8, each, bigSepL_cons_cons, bigSepL_singleton]
  rw [show (iprop(Φ 7 ∗ emp) : sProp 𝕄) = Φ 7 from BI.Entails.antisymm sep_emp.1 sep_emp.2]
  rfl

/-- A loop: each step turns its own `A r` into `B r`, and what is shared from its state before the listed steps to its
    state after. -/
theorem Step.loop {c : Dev nD} {f : Fin 8 → P (F := F) PUnit} {A B : Fin 8 → sProp 𝕄} {I : List (Fin 8) → sProp 𝕄}
    (h : ∀ r l, Step c iprop(A r ∗ I (r :: l)) (f r) iprop(B r ∗ I l)) :
    ∀ l, Step c iprop(each A l ∗ I l) (steps f l) iprop(each B l ∗ I [])
  | [] => fun Q => by
    unfold steps each Run
    rw [Prog.pure_eq_ret, wp_ret]
    iintro H HQ
    imodintro
    iapply HQ; iexact H
  | r :: l => fun Q => by
    unfold steps each Run
    rw [wp_bind]
    iintro ⟨⟨HA, HAs⟩, HI⟩ HQ
    iapply (h r l _) $$ [HA HI]
    · isplitl [HA] <;> iassumption
    iintro ⟨HB, HI⟩
    iapply (Step.loop h l Q) $$ [HAs HI]
    · isplitl [HAs] <;> iassumption
    iintro ⟨HBs, HI⟩
    iapply HQ
    isplitl [HB HBs]
    · isplitl [HB] <;> iassumption
    iexact HI

variable (K : Dev nD × SemLoc sig → ℕ)

/-- A device waits on one of its copies' semaphores: the payload is its, the semaphore is back at zero. -/
theorem wait_step (c : Dev nD) (s : DmaSem sig) {sp sp' : Space} {sh sh' : Shape} {e e' : EltTy}
    {src : Memref sig .tc sp' sh' e'} {dst : Memref sig .tc sp sh e} {hsrc : src.view.WordExact} {hdst : dst.view.WordExact}
    (hN : dst.view.dmaCredit = amt s) (O : CellTallies nD τ sig Unit) (hO : Above (lvS (.dma s)) O) :
    Step c iprop((crd c (.dma s) (amt s) ∗ pos c (.dma s)) ∗ records m K ∗ ow c O)
      (Prog.lift (.waitDma2 s src dst hsrc hdst)) iprop((done c (.dma s) ∗ dmaPay m c s) ∗ ow c O) := fun Q => by
  unfold ow Prog.lift Run
  iintro ⟨⟨Hc, Hp⟩, #HR, ⟨%W, HO⟩⟩ HQ
  ihave #HI := (records_inv m K c (.dma s)) $$ HR
  ihave #HL := (records_lev m K) $$ HR
  iapply (Rounds.wp_wait_rest_token 𝒱₀ ER (rd m) (c : Thread nD τ) none (κ := K (c, .dma s))
      (wpE_waitDma2_eq 𝒱₀ (c : Thread nD τ) none Set.univ) (Set.mem_univ _) () (O := O) (W := W) (R := 0) (m := 0) (T := ∅)
      (by rw [Nat.zero_add, expect_dma, hN])) $$ [Hc HO Hp]
  · isplitr; · iexact HI
    isplitl [Hc]; · rw [hN]; iexact Hc
    isplitl [HO]; · iexact HO
    isplitr; · iapply (mayWait c _ O hO); iexact HL
    iexact Hp
  iintro ⟨HO, Hp, -, Hpay⟩
  ihave Hpay := (Entails.of_eq (rest_dma m c s)) $$ Hpay
  rw [wp_ret]
  imod (Rounds.cell_close ER (rd m) (Set.mem_univ (K (c, .dma s))) (fun h => h) (R := 0 + 1) (duties_later m (cell c (.dma s)))) $$ [Hp] with Hz
  · isplitr; · iexact HI
    iexact Hp
  imodintro
  iapply HQ
  isplitl [Hz Hpay]
  · isplitl [Hz] <;> iassumption
  iexists _; iexact HO

/-- A copy within a device: the source's share and the destination go into the semaphore's payload. -/
theorem copy_step (c : Dev nD) (s : DmaSem sig) {sp sp' : Space} {sh : Shape} {e : EltTy}
    {src : Memref sig .tc sp sh e} {dst : Memref sig .tc sp' sh e} {hsrc : src.view.WordExact} {hdst : dst.view.WordExact}
    {hsem : DmaTarget.Typed (nD := nD) (τ := τ) (p := .tc) sp (.dma s) (.here dst)} (q : PosShare TreeShare)
    (fs : Buf (Elt F) (src.view.loc (c : Thread nD τ))) (g : Buf (Elt F) (dst.view.loc (c : Thread nD τ)))
    (hN : dst.view.dmaCredit = amt s) (hg : dst.view.read (Elt F) g = src.view.read (Elt F) fs)
    (hpay : dmaPay m c s = iprop(pts c dst fullShare g ∗ pts c src q fs)) :
    Step c iprop(records m K ∗ tok c (.dma s) false ∗ some c dst ∗ pts c src q fs)
      (Prog.lift (.enqueueDma src (.here dst) (.dma s) hsrc hdst hsem)) (crd c (.dma s) (amt s)) := fun Q => by
  unfold some Prog.lift Run
  iintro ⟨#HR, Ht, ⟨%fd, Hd⟩, Hs⟩ HQ
  ihave #HI := (records_inv m K c (.dma s)) $$ HR
  ihave #Hr := (records_reached m K c (.dma s)) $$ HR
  iapply (Rounds.wp_copy_pointsTo 𝒱₀ ER (rd m) (c : Thread nD τ) none (κ := K (c, .dma s)) (q := q) (fs := fs) (fd := fd) (r := 0) (d := false)
      (by rw [duties_dma]; exact Finset.mem_singleton_self _) () (amt s) (show dst.view.amount (.dma s) = amt s from hN) (amount_dma m c s false)
      (by rw [pts_write c dst fullShare fd g _ hg]; exact Entails.of_eq hpay.symm)) $$ [Ht Hd Hs]
  · isplitr; · iexact HI
    isplitl [Hs]; · unfold pts; iexact Hs
    isplitl [Hd]; · unfold pts; iexact Hd
    isplitl [Ht]; · iexact Ht
    iexact Hr
  iintro Hc
  rw [wp_ret]
  imodintro
  iapply HQ; iexact Hc

/-- A send to device `d`: the source's share goes into this device's semaphore, the destination into `d`'s. -/
theorem send_step (c d n : Dev nD) (hn : n = d) (sS sR : DmaSem sig) {sp sp' : Space} {sh : Shape} {e : EltTy}
    {src : Memref sig .tc sp sh e} {dst : Memref sig .tc sp' sh e} {hsc : dst.view.ref.isScScratch = false}
    {hsrc : src.view.WordExact} {hdst : dst.view.WordExact}
    {hsem : DmaTarget.Typed sp (.dma sR) (.remote (Dev.tc n : Thread nD τ) dst (.dma sS) hsc)} (q : PosShare TreeShare)
    (fs : Buf (Elt F) (src.view.loc (c : Thread nD τ))) (g : Buf (Elt F) (dst.view.loc (d : Thread nD τ)))
    (hN : dst.view.dmaCredit = N) (hS : amt sS = N) (hR : amt sR = N) (hg : dst.view.read (Elt F) g = src.view.read (Elt F) fs)
    (hpS : dmaPay m c sS = pts c src q fs) (hpR : dmaPay m d sR = pts d dst fullShare g) (O : CellTallies nD τ sig Unit) :
    Step c iprop((tok c (.dma sS) false ∗ tok d (.dma sR) false ∗ some d dst ∗ pts c src q fs)
        ∗ records m K ∗ ow c (O + tallyAt (cell d (.dma sR)) () N))
      (Prog.lift (.enqueueDma src (.remote (Dev.tc n : Thread nD τ) dst (.dma sS) hsc) (.dma sR) hsrc hdst hsem))
      iprop(crd c (.dma sS) N ∗ ow c O) := fun Q => by
  subst hn
  unfold some ow Prog.lift Run
  iintro ⟨⟨HtS, HtR, ⟨%fd, Hd⟩, Hs⟩, #HR, ⟨%W, HO⟩⟩ HQ
  ihave #HIS := (records_inv m K c (.dma sS)) $$ HR
  ihave #HIR := (records_inv m K n (.dma sR)) $$ HR
  ihave #HrS := (records_reached m K c (.dma sS)) $$ HR
  ihave #HrR := (records_reached m K n (.dma sR)) $$ HR
  iapply (Rounds.wp_send_pointsTo 𝒱₀ ER (rd m) (c : Thread nD τ) none (κ₁ := K (c, .dma sS)) (κ₂ := K (n, .dma sR)) (q := q) (fs := fs) (fd := fd)
      (r₁ := 0) (r₂ := 0) (d₁ := false) (d₂ := false)
      (by rw [duties_dma]; exact Finset.mem_singleton_self _) (by rw [duties_dma]; exact Finset.mem_singleton_self _)
      () () N (show dst.view.amount (.dma sR) = N from hN) ((amount_dma m c sS false).trans hS) ((amount_dma m n sR false).trans hR) O rfl (W := W)
      (Entails.of_eq hpS.symm) (by rw [pts_write n dst fullShare fd g _ hg]; exact Entails.of_eq hpR.symm)) $$ [HtS HtR Hd Hs HO]
  · isplitr; · iexact HIS
    isplitr; · iexact HIR
    isplitl [Hs]; · unfold pts; iexact Hs
    isplitl [Hd]; · unfold pts; iexact Hd
    isplitl [HO]; · iexact HO
    isplitl [HtS]; · iexact HtS
    isplitr; · iexact HrS
    isplitl [HtR]; · iexact HtR
    iexact HrR
  iintro ⟨Hc, HO⟩
  rw [wp_ret]
  imodintro
  iapply HQ
  isplitl [Hc]; · iexact Hc
  iexists _; iexact HO

end Cert.KernelIdealProof

end
-- ==== Proof.KernelIdealBody.lean ====
/-
The kernel body's steps, each proven once at a symbolic device and chunk, and the phases as loops over the chunks.
-/
module

public import proofs.«01_k».proof.Proof.KernelIdealOps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## Loads and stores of a chunk -/

/-- Reading a chunk gives what it holds. -/
theorem read_run (c : Dev nD) (M : Memref sig .tc .vmem S512x1024 .bf16) (r : Fin 8) (q : PosShare TreeShare)
    (f : Buf (Elt F) ((chunk M r).view.loc (c : Thread nD τ))) (Q : FVec F S64x1024 .bf16 → sProp 𝕄) :
    pts c (chunk M r) q f ⊢ iprop((pts c (chunk M r) q f -∗ Q ((chunk M r).view.read (Elt F) f)) -∗ Run c (readChunk M r) Q) := by
  unfold pts readChunk Prog.lift Run
  iintro H HQ
  iapply (wp_load_rect 𝒱₀ (c : Thread nD τ) none Set.univ (m := M) (r := rowRect r) (S := (chunk M r).view.set) (f := f) (Finset.Subset.refl _)) $$ H
  iintro H
  rw [wp_ret]
  imodintro
  iapply HQ; iexact H

/-- Writing a chunk leaves it holding any contents that read as what was written. -/
theorem write_run (c : Dev nD) (M : Memref sig .tc .vmem S512x1024 .bf16) (h : M.IsWhole) (r : Fin 8) (v : FVec F S64x1024 .bf16)
    (f g : Buf (Elt F) ((chunk M r).view.loc (c : Thread nD τ))) (hg : (chunk M r).view.read (Elt F) g = v) :
    Step c (pts c (chunk M r) fullShare f) (writeChunk M h r v) (pts c (chunk M r) fullShare g) := fun Q => by
  unfold writeChunk Prog.lift Run
  rw [← pts_write c (chunk M r) fullShare f g v hg]
  unfold pts
  iintro H HQ
  iapply (wp_store 𝒱₀ (c : Thread nD τ) none Set.univ (m := M) (r := rowRect r) (Mk := Finset.univ) (S := (chunk M r).view.set) (f := f)
    (Finset.Subset.refl _)) $$ H
  iintro H
  rw [wp_ret]
  imodintro
  iapply HQ; iexact H

/-- The origin as the constant function. -/
theorem hz : (![0, 0] : Fin 2 → Nat) = fun _ => 0 := funext fun a => by fin_cases a <;> rfl

/-- B is loaded as it was copied. -/
theorem loadB_run (c : Dev nD) (Q : Vec F S512x1024 .f32 → sProp 𝕄) :
    pts c bV fullShare (Bc m c) ⊢ iprop((pts c bV fullShare (Bc m c) -∗ Q (Bc m c)) -∗ Run c loadB Q) := by
  unfold pts loadB Prog.lift Run
  iintro H HQ
  iapply (wp_load 𝒱₀ (c : Thread nD τ) none Set.univ (m := bV) (by rw [View.set_whole]; exact Finset.subset_univ _)) $$ H
  iintro H
  rw [wp_ret, show bV.view.readAt (Elt F) _ (Bc m c) = Bc m c from Memref.readAt_unit_zero (Elt F) cc0_scratch1 hz _ _]
  imodintro
  iapply HQ; iexact H

/-! ## The partial products -/

/-- Chunk `r` of the partial product is computed. -/
theorem computeX_step (c : Dev nD) (r : Fin 8) :
    Step c iprop(some c (chunk xsV r) ∗ pts c aV fullShare (aC m c)) (computeX (Bc m c) r)
      iprop(pts c (chunk xsV r) fullShare (stack (part m c)) ∗ pts c aV fullShare (aC m c)) := fun Q => by
  unfold computeX some Run
  rw [wp_bind]
  iintro ⟨⟨%f, Hx⟩, Ha⟩ HQ
  unfold Prog.lift
  iapply (wp_load 𝒱₀ (c : Thread nD τ) none Set.univ (m := aV) (S := aV.view.set) (f := aC m c)
    (by rw [View.set_whole]; exact Finset.subset_univ _)) $$ [Ha]
  · unfold pts; iexact Ha
  iintro Ha
  rw [wp_ret]
  imodintro
  rw [wp_bind]
  iapply (read_run c xsV r fullShare f _) $$ Hx
  iintro Hx
  iapply (write_run c xsV whole r _ f (stack (part m c)) (read_xs (part m c) r) Q) $$ Hx
  iintro Hx
  iapply HQ
  isplitl [Hx]; · iexact Hx
  unfold pts; iexact Ha

/-- What sending chunk `r` of the partial product needs besides the chunk: the neighbour's place for it, both tokens. -/
abbrev goX (c : Dev nD) (r : Fin 8) : sProp 𝕄 :=
  iprop(tok c (.dma (xsS r)) false ∗ tok (px c) (.dma (xrS r)) false ∗ some (px c) (chunk xrV r))
/-- What is left after it: the send's credit and half the chunk. -/
abbrev wentX (c : Dev nD) (r : Fin 8) : sProp 𝕄 := iprop(crd c (.dma (xsS r)) N ∗ pts c (chunk xsV r) fullShare.right (stack (part m c)))

/-- What is owed with chunk `r` still to send is what is owed without it, plus that chunk's landing on the x-neighbour. -/
theorem OX_cons (c : Dev nD) (r : Fin 8) (l : List (Fin 8)) : OX c (r :: l) = OX c l + tallyAt (cell (px c) (.dma (xrS r))) () N :=
  (add_assoc _ _ _).symm

/-- Sending chunk `r` of the partial product to the x-neighbour: half a share of the source goes with the copy, and the landing is no longer owed. -/
theorem sendX_step (c : Dev nD) (r : Fin 8) (l : List (Fin 8)) :
    Step c iprop((goX c r ∗ pts c (chunk xsV r) fullShare (stack (part m c))) ∗ records m K ∗ ow c (OX c (r :: l))) (sendX c r)
      iprop(wentX m c r ∗ ow c (OX c l)) := fun Q => by
  unfold sendX
  rw [OX_cons]
  iintro ⟨⟨⟨H1, H2, H3⟩, Hx⟩, #HR, HO⟩ HQ
  ihave Hx := (pts_halves c (chunk xsV r) fullShare (stack (part m c))).1 $$ Hx
  icases Hx with ⟨Hl, Hr⟩
  iapply (send_step m K c (px c) _ (dev3_eq c) (xsS r) (xrS r) (src := chunk xsV r) (dst := chunk xrV r) fullShare.left (stack (part m c))
    (stack (part m (px (px c)))) rfl (amt_xs r) (amt_xr r) (by rw [px_px, read_xs, read_xr]) (pay_xs m c r) (pay_xr m (px c) r) (OX c l) Q) $$ [H1 H2 H3 Hl HO]
  · isplitl [H1 H2 H3 Hl]
    · isplitl [H1]; · iexact H1
      isplitl [H2]; · iexact H2
      isplitl [H3]; · iexact H3
      iexact Hl
    isplitr; · iexact HR
    iexact HO
  iintro ⟨Hc, HO⟩
  iapply HQ
  isplitl [Hc Hr]
  · isplitl [Hc] <;> iassumption
  iexact HO

/-- One step of the first phase. -/
theorem stepX_step (c : Dev nD) (r : Fin 8) (l : List (Fin 8)) :
    Step c iprop((some c (chunk xsV r) ∗ goX c r) ∗ pts c aV fullShare (aC m c) ∗ records m K ∗ ow c (OX c (r :: l))) (stepX (Bc m c) c r)
      iprop(wentX m c r ∗ pts c aV fullShare (aC m c) ∗ records m K ∗ ow c (OX c l)) := fun Q => by
  unfold stepX Run
  rw [wp_bind]
  iintro ⟨⟨Hx, Hg⟩, Ha, #HR, HO⟩ HQ
  iapply (computeX_step m c r _) $$ [Hx Ha]
  · isplitl [Hx] <;> iassumption
  iintro ⟨Hx, Ha⟩
  iapply (sendX_step m K c r l Q) $$ [Hx Hg HO]
  · isplitl [Hx Hg]
    · isplitl [Hg] <;> iassumption
    isplitr; · iexact HR
    iexact HO
  iintro ⟨Hw, HO⟩
  iapply HQ
  isplitl [Hw]; · iexact Hw
  isplitl [Ha]; · iexact Ha
  isplitr; · iexact HR
  iexact HO

/-! ## Waits on chunks -/

/-- A chunk of a buffer is worth `N` units. -/
theorem credit_chunk (M : Memref sig .tc .vmem S512x1024 .bf16) (r : Fin 8) : (chunk M r).view.dmaCredit = N := rfl
/-- So is a chunk of the output in the device's own rows. -/
theorem credit_own (c : Dev nD) (r : Fin 8) : (outOwn c r).view.dmaCredit = N := rfl
/-- So is a chunk of the output in the other half of the rows. -/
theorem credit_peer (c : Dev nD) (r : Fin 8) : (outPeer c r).view.dmaCredit = N := rfl

/-- A wait for a chunk to arrive, which brings the payload `R` of the copy's semaphore. -/
theorem chunk_wait (c : Dev nD) (s : DmaSem sig) {sp sp' : Space} {sh sh' : Shape} {e e' : EltTy}
    (src : Memref sig .tc sp' sh' e') (dst : Memref sig .tc sp sh e) (hsrc : src.view.WordExact) (hdst : dst.view.WordExact)
    (hN : dst.view.dmaCredit = N) (hs : amt s = N) (R : sProp 𝕄) (hR : dmaPay m c s = R)
    (O : CellTallies nD τ sig Unit) (hO : Above (lvS (.dma s)) O) :
    Step c iprop((crd c (.dma s) N ∗ pos c (.dma s)) ∗ records m K ∗ ow c O)
      (Prog.lift (.waitDma2 s src dst hsrc hdst)) iprop((done c (.dma s) ∗ R) ∗ records m K ∗ ow c O) := fun Q => by
  subst hR
  rw [← hs] at hN ⊢
  iintro ⟨Hc, #HR, HO⟩ HQ
  iapply (wait_step m K c s hN O hO Q) $$ [Hc HO]
  · isplitl [Hc]; · iexact Hc
    isplitr; · iexact HR
    iexact HO
  iintro ⟨Hc, HO⟩
  iapply HQ
  isplitl [Hc]; · iexact Hc
  isplitr; · iexact HR
  iexact HO

/-- The five kinds of wait on a chunk. -/
theorem recvX_step (c : Dev nD) (r : Fin 8) (l : List (Fin 8)) :
    Step c iprop((crd c (.dma (xrS r)) N ∗ pos c (.dma (xrS r))) ∗ records m K ∗ ow c (OY c l)) (recvX r)
      iprop((done c (.dma (xrS r)) ∗ xrPay m c r) ∗ records m K ∗ ow c (OY c l)) :=
  chunk_wait m K c (xrS r) (chunk xsV r) (chunk xrV r) _ _ (credit_chunk xrV r) (amt_xr r) _ (pay_xr m c r) _
    (above_OY (by rw [lv_xr]; decide) c l)
/-- Waiting for chunk `r` from the y-neighbour gives that chunk of its sums. -/
theorem recvY_step (c : Dev nD) (r : Fin 8) :
    Step c iprop((crd c (.dma (yrS r)) N ∗ pos c (.dma (yrS r))) ∗ records m K ∗ ow c 0) (recvY r)
      iprop((done c (.dma (yrS r)) ∗ yrPay m c r) ∗ records m K ∗ ow c 0) :=
  chunk_wait m K c (yrS r) (chunk ysV r) (chunk yrV r) _ _ (credit_chunk yrV r) (amt_yr r) _ (pay_yr m c r) _ (above_zero _)
/-- Waiting for the copy of an own chunk into the output gives the rows back, written. -/
theorem waitOwn_step (c : Dev nD) (r : Fin 8) :
    Step c iprop((crd c (.dma (outS (loIx r))) N ∗ pos c (.dma (outS (loIx r)))) ∗ records m K ∗ ow c 0) (waitOwn c r)
      iprop((done c (.dma (outS (loIx r))) ∗ ownPay m c r) ∗ records m K ∗ ow c 0) :=
  chunk_wait m K c (outS (loIx r)) (chunk ysV r) (outOwn c r) _ _ (credit_own c r) (amt_own r) _ (pay_own m c r) _ (above_zero _)
/-- Waiting for the copy of a received chunk into the output gives the rows back, written. -/
theorem waitPeer_step (c : Dev nD) (r : Fin 8) :
    Step c iprop((crd c (.dma (outS (hiIx r))) N ∗ pos c (.dma (outS (hiIx r)))) ∗ records m K ∗ ow c 0) (waitPeer c r)
      iprop((done c (.dma (outS (hiIx r))) ∗ peerPay m c r) ∗ records m K ∗ ow c 0) :=
  chunk_wait m K c (outS (hiIx r)) (chunk yrV r) (outPeer c r) _ _ (credit_peer c r) (amt_peer r) _ (pay_peer m c r) _ (above_zero _)
/-- Waiting for the x-send of chunk `r` gives its source back. -/
theorem waitSentX_step (c : Dev nD) (r : Fin 8) :
    Step c iprop((crd c (.dma (xsS r)) N ∗ pos c (.dma (xsS r))) ∗ records m K ∗ ow c 0) (waitSentX r)
      iprop((done c (.dma (xsS r)) ∗ xsPay m c r) ∗ records m K ∗ ow c 0) :=
  chunk_wait m K c (xsS r) (chunk xrV r) (chunk xsV r) _ _ (credit_chunk xsV r) (amt_xs r) _ (pay_xs m c r) _ (above_zero _)
/-- Waiting for the y-send of chunk `r` gives its source back. -/
theorem waitSentY_step (c : Dev nD) (r : Fin 8) :
    Step c iprop((crd c (.dma (ysS r)) N ∗ pos c (.dma (ysS r))) ∗ records m K ∗ ow c 0) (waitSentY r)
      iprop((done c (.dma (ysS r)) ∗ ysPay m c r) ∗ records m K ∗ ow c 0) :=
  chunk_wait m K c (ysS r) (chunk yrV r) (chunk ysV r) _ _ (credit_chunk ysV r) (amt_ys r) _ (pay_ys m c r) _ (above_zero _)

/-! ## The sums -/

/-- Chunk `r` of the sum is computed from this device's partial product and the neighbour's. -/
theorem addX_step (c : Dev nD) (r : Fin 8) :
    Step c iprop(pts c (chunk xsV r) fullShare.right (stack (part m c)) ∗ pts c (chunk xrV r) fullShare (stack (part m (px c))) ∗ some c (chunk ysV r)) (addX r)
      iprop(pts c (chunk xsV r) fullShare.right (stack (part m c)) ∗ pts c (chunk xrV r) fullShare (stack (part m (px c)))
        ∗ pts c (chunk ysV r) fullShare (stack (sumC m c))) := fun Q => by
  unfold addX some Run
  rw [wp_bind]
  iintro ⟨Hx, Hr, ⟨%f, Hy⟩⟩ HQ
  iapply (read_run c xsV r fullShare.right _ _) $$ Hx
  iintro Hx
  rw [wp_bind]
  iapply (read_run c xrV r fullShare _ _) $$ Hr
  iintro Hr
  rw [wp_bind]
  iapply (read_run c ysV r fullShare f _) $$ Hy
  iintro Hy
  rw [read_xs, read_xr]
  iapply (write_run c ysV whole r _ f (stack (sumC m c)) (read_ys (sumC m c) r) Q) $$ Hy
  iintro Hy
  iapply HQ
  isplitl [Hx]; · iexact Hx
  isplitl [Hr] <;> iassumption

/-- What a step of the second phase starts from and leaves. -/
abbrev goY (c : Dev nD) (r : Fin 8) : sProp 𝕄 :=
  iprop((crd c (.dma (xrS r)) N ∗ pos c (.dma (xrS r))) ∗ pts c (chunk xsV r) fullShare.right (stack (part m c)) ∗ some c (chunk ysV r)
    ∗ (tok c (.dma (ysS r)) false ∗ tok (py c) (.dma (yrS r)) false ∗ some (py c) (chunk yrV r))
    ∗ tok c (.dma (outS (loIx r))) false ∗ some c (outOwn c r))
/-- What the middle step of chunk `r` leaves. -/
abbrev wentY (c : Dev nD) (r : Fin 8) : sProp 𝕄 :=
  iprop(done c (.dma (xrS r)) ∗ pts c (chunk xsV r) fullShare.right (stack (part m c)) ∗ xrPay m c r
    ∗ crd c (.dma (ysS r)) N ∗ crd c (.dma (outS (loIx r))) N)

/-- The middle step of chunk `r`: receive, add, send on to the y-neighbour, copy into the output. -/
theorem stepY_step (c : Dev nD) (r : Fin 8) (l : List (Fin 8)) :
    Step c iprop(goY m c r ∗ records m K ∗ ow c (OY c (r :: l))) (stepY c r) iprop(wentY m c r ∗ records m K ∗ ow c (OY c l)) := fun Q => by
  unfold stepY Run
  rw [wp_bind]
  iintro ⟨⟨⟨Hc, Hp⟩, Hx, Hy, ⟨H1, H2, H3⟩, Ho, Hout⟩, #HR, HO⟩ HQ
  iapply (recvX_step m K c r (r :: l) _) $$ [Hc Hp HO]
  · isplitl [Hc Hp]
    · isplitl [Hc] <;> iassumption
    isplitr; · iexact HR
    iexact HO
  iintro ⟨⟨Hz, Hr⟩, -, HO⟩
  rw [wp_bind]
  iapply (addX_step m c r _) $$ [Hx Hr Hy]
  · isplitl [Hx]; · iexact Hx
    isplitl [Hr] <;> iassumption
  iintro ⟨Hx, Hr, Hy⟩
  ihave Hy := (pts_halves c (chunk ysV r) fullShare (stack (sumC m c))).1 $$ Hy
  icases Hy with ⟨Hyl, Hyr⟩
  rw [wp_bind]
  unfold sendY
  iapply (send_step m K c (py c) _ (dev11_eq c) (ysS r) (yrS r) (src := chunk ysV r) (dst := chunk yrV r) fullShare.left (stack (sumC m c))
    (stack (sumC m (py (py c)))) rfl (amt_ys r) (amt_yr r) (by rw [py_py, read_ys, read_yr]) (pay_ys m c r) (pay_yr m (py c) r) (OY c l) _) $$ [H1 H2 H3 Hyl HO]
  · isplitl [H1 H2 H3 Hyl]
    · isplitl [H1]; · iexact H1
      isplitl [H2]; · iexact H2
      isplitl [H3]; · iexact H3
      iexact Hyl
    isplitr; · iexact HR
    iexact HO
  iintro ⟨Hcy, HO⟩
  unfold copyOwn
  iapply (copy_step m K c (outS (loIx r)) (src := chunk ysV r) (dst := outOwn c r) fullShare.right (stack (sumC m c)) (outC m c) ((credit_own c r).trans (amt_own r).symm)
    (by rw [read_own, read_ys]) (pay_own m c r) _) $$ [Ho Hout Hyr]
  · isplitr; · iexact HR
    isplitl [Ho]; · iexact Ho
    isplitl [Hout] <;> iassumption
  rw [amt_own]
  iintro Hco
  iapply HQ
  isplitl [Hz Hx Hr Hcy Hco]
  · isplitl [Hz]; · iexact Hz
    isplitl [Hx]; · iexact Hx
    isplitl [Hr]; · iexact Hr
    isplitl [Hcy] <;> iassumption
  isplitr; · iexact HR
  iexact HO

/-! ## The neighbour's sums -/

/-- What the last step of chunk `r` needs. -/
abbrev goOut (c : Dev nD) (r : Fin 8) : sProp 𝕄 :=
  iprop((crd c (.dma (yrS r)) N ∗ pos c (.dma (yrS r))) ∗ tok c (.dma (outS (hiIx r))) false ∗ some c (outPeer c r))
/-- What it leaves. -/
abbrev wentOut (c : Dev nD) (r : Fin 8) : sProp 𝕄 := iprop(done c (.dma (yrS r)) ∗ crd c (.dma (outS (hiIx r))) N)

/-- The last step of chunk `r`: receive from the y-neighbour and copy into the other half of the output. -/
theorem stepOut_step (c : Dev nD) (r : Fin 8) (l : List (Fin 8)) :
    Step c iprop(goOut c r ∗ records m K ∗ ow c 0) (stepOut c r) iprop(wentOut c r ∗ records m K ∗ ow c 0) := fun Q => by
  unfold stepOut Run
  rw [wp_bind]
  iintro ⟨⟨⟨Hc, Hp⟩, Ht, Hout⟩, #HR, HO⟩ HQ
  iapply (recvY_step m K c r _) $$ [Hc Hp HO]
  · isplitl [Hc Hp]
    · isplitl [Hc] <;> iassumption
    isplitr; · iexact HR
    iexact HO
  iintro ⟨⟨Hz, Hr⟩, -, HO⟩
  unfold copyPeer
  iapply (copy_step m K c (outS (hiIx r)) (src := chunk yrV r) (dst := outPeer c r) fullShare (stack (sumC m (py c))) (outC m c) ((credit_peer c r).trans (amt_peer r).symm)
    (by rw [read_peer, read_yr]) (pay_peer m c r) _) $$ [Ht Hout Hr]
  · isplitr; · iexact HR
    isplitl [Ht]; · iexact Ht
    isplitl [Hout] <;> iassumption
  rw [amt_peer]
  iintro Hco
  iapply HQ
  isplitl [Hz Hco]
  · isplitl [Hz] <;> iassumption
  isplitr; · iexact HR
  iexact HO

/-! ## The waits that drain -/

/-- Waiting for both sends of chunk `r`. -/
theorem stepSent_step (c : Dev nD) (r : Fin 8) :
    Step c iprop(((crd c (.dma (xsS r)) N ∗ pos c (.dma (xsS r))) ∗ (crd c (.dma (ysS r)) N ∗ pos c (.dma (ysS r)))) ∗ records m K ∗ ow c 0) (stepSent r)
      iprop(((done c (.dma (xsS r)) ∗ xsPay m c r) ∗ (done c (.dma (ysS r)) ∗ ysPay m c r)) ∗ records m K ∗ ow c 0) := fun Q => by
  unfold stepSent Run
  rw [wp_bind]
  iintro ⟨⟨HX, HY⟩, HR, HO⟩ HQ
  iapply (waitSentX_step m K c r _) $$ [HX HR HO]
  · isplitl [HX]; · iexact HX
    isplitl [HR] <;> iassumption
  iintro ⟨HX, HR, HO⟩
  iapply (waitSentY_step m K c r Q) $$ [HY HR HO]
  · isplitl [HY]; · iexact HY
    isplitl [HR] <;> iassumption
  iintro ⟨HY, HR, HO⟩
  iapply HQ
  isplitl [HX HY]
  · isplitl [HX] <;> iassumption
  isplitl [HR] <;> iassumption

/-! ## The prologue -/

/-- A signal to neighbour `d`'s barrier, paying its duty `b` there. -/
theorem signal_step (c d n : Dev nD) (hn : n = d) (b : Bool) (O : CellTallies nD τ sig Unit) :
    Step c iprop((tok d (.reg barS) b ∗ barPay d b) ∗ records m K ∗ ow c (O + tallyAt (cell d (.reg barS)) () 1))
      (semSignalWord n barS 1#32) (ow c O) := fun Q => by
  subst hn
  unfold ow Run
  simp only [semSignalWord, Prog.lift, Prog.bind_op, Prog.bind_ret, Prog.pure_eq_ret]
  iintro ⟨⟨Ht, Hp⟩, #HR, ⟨%W, HO⟩⟩ HQ
  iapply (Rounds.wp_signal 𝒱₀ ER (rd m) (c : Thread nD τ) none (dst := (n : Thread nD τ)) (κ := K (n, .reg barS))
      (d := b) (by rw [duties_bar]; exact Finset.mem_univ _) ((amount_bar m n b).trans (by decide)) () O rfl)
    $$ [HO Ht Hp]
  · isplitr; · iapply (records_inv m K n (.reg barS)); iexact HR
    isplitl [HO]; · iexact HO
    isplitl [Ht]; · iexact Ht
    isplitl [Hp]
    · iapply (Entails.of_eq (show barPay (F := F) n b = (rd m).payload (cell n (.reg barS)) 0 b from rfl)); iexact Hp
    iapply (records_reached m K n (.reg barS)); iexact HR
  iintro HO
  rw [wp_ret]
  imodintro
  iapply HQ
  iexists _; iexact HO

/-- The wait for both neighbours' signals: their receive buffers come with them, and the barrier is back at zero. -/
theorem barrier_step (c : Dev nD) :
    Step c iprop((crd c (.reg barS) 2 ∗ pos c (.reg barS)) ∗ records m K ∗ ow c (OX c all8)) (semWaitWord barS 2#32)
      iprop((done c (.reg barS) ∗ some (px c) xrV ∗ some (py c) yrV) ∗ ow c (OX c all8)) := fun Q => by
  unfold ow Run
  simp only [semWaitWord, Prog.lift, Prog.bind_op, Prog.bind_ret, Prog.pure_eq_ret]
  iintro ⟨⟨Hc, Hp⟩, #HR, ⟨%W, HO⟩⟩ HQ
  ihave #HI := (records_inv m K c (.reg barS)) $$ HR
  ihave #HL := (records_lev m K) $$ HR
  iapply (Rounds.wp_wait_rest_token 𝒱₀ ER (rd m) (c : Thread nD τ) none (κ := K (c, .reg barS))
      (wpE_semWait_eq 𝒱₀ (c : Thread nD τ) none Set.univ) (Set.mem_univ _) () (O := OX c all8) (W := W) (R := 0) (m := 0) (T := ∅)
      (by rw [expect_bar]; decide)) $$ [Hc HO Hp]
  · isplitr; · iexact HI
    isplitl [Hc]; · iexact Hc
    isplitl [HO]; · iexact HO
    isplitr; · iapply (mayWait c (.reg barS) _ (above_OX (by decide) c all8)); iexact HL
    iexact Hp
  iintro ⟨HO, Hp, -, Hpay⟩
  ihave Hpay := (Entails.of_eq (rest_bar m c)) $$ Hpay
  rw [wp_ret]
  imod (Rounds.cell_close ER (rd m) (Set.mem_univ (K (c, .reg barS))) (fun h => h) (R := 0 + 1) (duties_later m (cell c (.reg barS)))) $$ [Hp] with Hz
  · isplitr; · iexact HI
    iexact Hp
  imodintro
  iapply HQ
  isplitl [Hz Hpay]
  · isplitl [Hz] <;> iassumption
  iexists _; iexact HO

end Cert.KernelIdealProof

end
-- ==== Proof.KernelIdealDevice.lean ====
/-
The whole kernel body on one device: the buffers cut into chunks, the phases run, the chunks put together again.
-/
module

public import proofs.«01_k».proof.Proof.KernelIdealBody

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ)

/-! ## Buffers cut into pieces -/

/-- A buffer is held when each piece of a partition of it is. -/
theorem pts_cut {T : Type} [Fintype T] [DecidableEq T] (c : Dev nD) {sp : Space} {s : Shape} {e : EltTy} (M : Memref sig .tc sp s e)
    (q : PosShare TreeShare) (f : Buf (Elt F) (M.view.loc (c : Thread nD τ))) (R : T → Rect s) (hu : ∀ t a, (R t).stride a = 1)
    (hd : ∀ t t', t ≠ t' → Disjoint (R t).set (R t').set) (hc : ∀ i, ∃ t, i ∈ (R t).set) :
    (pts c M q f : sProp 𝕄) = bigSep Finset.univ fun t => pts c (M.slice (R t) (hu t)) q f := by
  unfold pts
  refine Eq.trans (congrArg (fun S => pointsTo (M.view.loc (c : Thread nD τ)) S q f) ?_)
    (pointsTo_biUnion (ℓ := M.view.loc (c : Thread nD τ)) Finset.univ (fun t => (M.view.slice (R t)).set) (fun t _ t' _ h => by
      rw [View.set_slice, View.set_slice]; exact (Finset.disjoint_map _).mpr (hd t t' h)))
  ext x
  rw [Finset.mem_biUnion]
  constructor
  · intro hx
    obtain ⟨i, -, rfl⟩ := Finset.mem_map.mp hx
    obtain ⟨t, ht⟩ := hc i
    exact ⟨t, Finset.mem_univ _, by rw [View.set_slice]; exact Finset.mem_map_of_mem _ ht⟩
  · rintro ⟨t, -, hx⟩
    exact View.set_slice_subset M.view (R t) hx

/-- A 512-row buffer in its eight chunks. -/
theorem cut8 (c : Dev nD) (M : Memref sig .tc .vmem S512x1024 .bf16) (q : PosShare TreeShare) (f : Buf (Elt F) (M.view.loc (c : Thread nD τ))) :
    (pts c M q f : sProp 𝕄) = each (fun r => pts c (chunk M r) q f) all8 := by
  rw [← each_all]
  refine pts_cut c M q f rowRect (fun _ _ => rfl) (fun r r' h => Rect.unit_disjoint (0 : Fin 2) ?_) (fun i => ?_)
  · show 64 * r.val + 64 ≤ 64 * r'.val ∨ 64 * r'.val + 64 ≤ 64 * r.val
    have := fun e => h (Fin.ext e)
    omega
  · have h0 : (i (0 : Fin 2)).val < 512 := (i (0 : Fin 2)).isLt
    have h1 : (i (1 : Fin 2)).val < 1024 := (i (1 : Fin 2)).isLt
    refine ⟨⟨(i (0 : Fin 2)).val / 64, by omega⟩, Rect.mem_set_unit.mpr fun a => ?_⟩
    match a with
    | ⟨0, _⟩ => show 64 * ((i (0 : Fin 2)).val / 64) ≤ (i (0 : Fin 2)).val ∧ (i (0 : Fin 2)).val < 64 * ((i (0 : Fin 2)).val / 64) + 64; omega
    | ⟨1, _⟩ => show 0 ≤ (i (1 : Fin 2)).val ∧ (i (1 : Fin 2)).val < 0 + 1024; omega

/-- A whole buffer of unknown contents is its eight chunks. -/
theorem some_cut8 (c : Dev nD) (M : Memref sig .tc .vmem S512x1024 .bf16) :
    (some c M : sProp 𝕄) ⊢ each (fun r => some c (chunk M r)) all8 := by
  unfold some
  iintro ⟨%f, H⟩
  ihave H := (Entails.of_eq (cut8 c M fullShare f)) $$ H
  iapply (each_mono (fun r => show (pts c (chunk M r) fullShare f : sProp 𝕄) ⊢ iprop(∃ f, pts c (chunk M r) fullShare f) from by
    iintro H; iexists f; iexact H) all8)
  iexact H

/-- Eight chunks of one contents are the whole buffer. -/
theorem join8 (c : Dev nD) (M : Memref sig .tc .vmem S512x1024 .bf16) (f : Buf (Elt F) (M.view.loc (c : Thread nD τ))) :
    (each (fun r => pts c (chunk M r) fullShare f) all8 : sProp 𝕄) ⊢ some c M := by
  unfold some
  iintro H
  iexists f
  iapply (Entails.of_eq (cut8 c M fullShare f).symm)
  iexact H

/-- From each chunk's two halves. -/
theorem join8_halves (c : Dev nD) (M : Memref sig .tc .vmem S512x1024 .bf16) (f : Buf (Elt F) (M.view.loc (c : Thread nD τ))) :
    (iprop(each (fun r => pts c (chunk M r) fullShare.left f) all8 ∗ each (fun r => pts c (chunk M r) fullShare.right f) all8) : sProp 𝕄)
      ⊢ some c M := by
  iintro H
  ihave H := (each_sep _ _ all8).2 $$ H
  iapply (join8 c M f)
  iapply (each_mono (fun r => (pts_halves c (chunk M r) fullShare f).2) all8)
  iexact H

/-- Where the output's pieces lie: those of the own half, then those of the peer's. -/
def outRect (c : Dev nD) : Fin 8 ⊕ Fin 8 → Rect S1024x1024
  | .inl r => Rect.unit (s := S1024x1024) (k0_off2 c (BitVec.ofNat 32 (64 * r.val))) S64x1024.size (k0_off2_inb c r)
  | .inr r => Rect.unit (s := S1024x1024) (k0_off3 c (BitVec.ofNat 32 (64 * r.val))) S64x1024.size (k0_off3_inb c r)

/-- The first row of own chunk `r` in the output. -/
theorem own_start (c : Dev nD) (r : Fin 8) : k0_off2 c (BitVec.ofNat 32 (64 * r.val)) (0 : Fin 2) = 512 * (c.val % 2) + 64 * r.val := by
  rw [k0_off2_eq c r]; rfl
/-- The first row of received chunk `r` in the output. -/
theorem peer_start (c : Dev nD) (r : Fin 8) : k0_off3 c (BitVec.ofNat 32 (64 * r.val)) (0 : Fin 2) = (64 * r.val + 512) - 512 * (c.val % 2) := by
  rw [k0_off3_eq c r]; rfl
/-- Own chunks begin at column zero. -/
theorem own_start1 (c : Dev nD) (r : Fin 8) : k0_off2 c (BitVec.ofNat 32 (64 * r.val)) (1 : Fin 2) = 0 := by
  rw [k0_off2_eq c r]; rfl
/-- Received chunks begin at column zero. -/
theorem peer_start1 (c : Dev nD) (r : Fin 8) : k0_off3 c (BitVec.ofNat 32 (64 * r.val)) (1 : Fin 2) = 0 := by
  rw [k0_off3_eq c r]; rfl

/-- The first row of a piece. -/
def outStart (c : Dev nD) : Fin 8 ⊕ Fin 8 → ℕ
  | .inl r => 512 * (c.val % 2) + 64 * r.val
  | .inr r => (64 * r.val + 512) - 512 * (c.val % 2)

/-- A piece is its 64 rows. -/
theorem mem_outRect (c : Dev nD) (t : Fin 8 ⊕ Fin 8) (i : S1024x1024.Idx) :
    i ∈ (outRect c t).set ↔ outStart c t ≤ (i (0 : Fin 2)).val ∧ (i (0 : Fin 2)).val < outStart c t + 64 := by
  have h1 : (i (1 : Fin 2)).val < 1024 := (i (1 : Fin 2)).isLt
  rcases t with r | r
  · refine (Rect.mem_set_unit (inb := k0_off2_inb c r)).trans ⟨fun h => ?_, fun h a => ?_⟩
    · have := h (0 : Fin 2); rw [own_start] at this; exact this
    · match a with
      | ⟨0, _⟩ => show k0_off2 c _ (0 : Fin 2) ≤ (i (0 : Fin 2)).val ∧ (i (0 : Fin 2)).val < k0_off2 c _ (0 : Fin 2) + 64; rw [own_start]; exact h
      | ⟨1, _⟩ => show k0_off2 c _ (1 : Fin 2) ≤ (i (1 : Fin 2)).val ∧ (i (1 : Fin 2)).val < k0_off2 c _ (1 : Fin 2) + 1024; rw [own_start1]; omega
  · refine (Rect.mem_set_unit (inb := k0_off3_inb c r)).trans ⟨fun h => ?_, fun h a => ?_⟩
    · have := h (0 : Fin 2); rw [peer_start] at this; exact this
    · match a with
      | ⟨0, _⟩ => show k0_off3 c _ (0 : Fin 2) ≤ (i (0 : Fin 2)).val ∧ (i (0 : Fin 2)).val < k0_off3 c _ (0 : Fin 2) + 64; rw [peer_start]; exact h
      | ⟨1, _⟩ => show k0_off3 c _ (1 : Fin 2) ≤ (i (1 : Fin 2)).val ∧ (i (1 : Fin 2)).val < k0_off3 c _ (1 : Fin 2) + 1024; rw [peer_start1]; omega

/-- The sixteen pieces of the output do not overlap. -/
theorem outRect_disjoint (c : Dev nD) (t t' : Fin 8 ⊕ Fin 8) (h : t ≠ t') : Disjoint (outRect c t).set (outRect c t').set := by
  have hc : c.val % 2 < 2 := Nat.mod_lt _ (by decide)
  refine Finset.disjoint_left.mpr fun i hi hi' => ?_
  rw [mem_outRect] at hi hi'
  rcases t with r | r <;> rcases t' with r' | r' <;> unfold outStart at hi hi' <;> dsimp only at hi hi'
  · exact h (congrArg Sum.inl (Fin.ext (by omega)))
  · omega
  · omega
  · exact h (congrArg Sum.inr (Fin.ext (by omega)))

/-- They cover the output. -/
theorem outRect_cover (c : Dev nD) (i : S1024x1024.Idx) : ∃ t, i ∈ (outRect c t).set := by
  have hc : c.val % 2 < 2 := Nat.mod_lt _ (by decide)
  have h0 : (i (0 : Fin 2)).val < 1024 := (i (0 : Fin 2)).isLt
  by_cases hh : (i (0 : Fin 2)).val / 512 = c.val % 2
  · exact ⟨.inl ⟨(i (0 : Fin 2)).val % 512 / 64, by omega⟩, (mem_outRect c _ i).mpr (by unfold outStart; dsimp only; omega)⟩
  · exact ⟨.inr ⟨(i (0 : Fin 2)).val % 512 / 64, by omega⟩, (mem_outRect c _ i).mpr (by unfold outStart; dsimp only; omega)⟩

/-- The output in its sixteen pieces. -/
theorem cutOut (c : Dev nD) (f : Buf (Elt F) (oH.view.loc (c : Thread nD τ))) :
    (pts c oH fullShare f : sProp 𝕄) = iprop(each (fun r => pts c (outOwn c r) fullShare f) all8 ∗ each (fun r => pts c (outPeer c r) fullShare f) all8) := by
  rw [pts_cut c oH fullShare f (outRect c) (fun t _ => by cases t <;> rfl) (outRect_disjoint c) (outRect_cover c), bigSep_univ_sum,
    ← each_all, ← each_all]
  rfl

/-- The output is its sixteen pieces. -/
theorem some_cutOut (c : Dev nD) :
    (some c oH : sProp 𝕄) ⊢ iprop(each (fun r => some c (outOwn c r)) all8 ∗ each (fun r => some c (outPeer c r)) all8) := by
  unfold some
  iintro ⟨%f, H⟩
  ihave H := (Entails.of_eq (cutOut c f)) $$ H
  icases H with ⟨H1, H2⟩
  isplitl [H1]
  · iapply (each_mono (fun r => show (pts c (outOwn c r) fullShare f : sProp 𝕄) ⊢ iprop(∃ f, pts c (outOwn c r) fullShare f) from by
      iintro H; iexists f; iexact H) all8)
    iexact H1
  · iapply (each_mono (fun r => show (pts c (outPeer c r) fullShare f : sProp 𝕄) ⊢ iprop(∃ f, pts c (outPeer c r) fullShare f) from by
      iintro H; iexists f; iexact H) all8)
    iexact H2

/-- The A block: the half this device reads, and the rest. -/
def aRest (c : Dev nD) (f : Buf (Elt F) (aH.view.loc (c : Thread nD τ))) : sProp 𝕄 :=
  iprop(aH.view.loc (c : Thread nD τ) ↦[aH.view.set \ (aHalf c).view.set]{fullShare} f)
/-- The argument A is the half that the device reads and the rest. -/
theorem cutA (c : Dev nD) (f : Buf (Elt F) (aH.view.loc (c : Thread nD τ))) :
    (pts c aH fullShare f : sProp 𝕄) ⊣⊢ iprop(pts c (aHalf c) fullShare f ∗ aRest c f) :=
  pointsTo_split_subset (View.set_slice_subset aH.view _)

/-! ## The prologue -/

/-- The signal from the x-neighbour hands over the buffer that receives along x. -/
theorem barPay_x (c : Dev nD) : (barPay (px c) false : sProp 𝕄) = some c xrV := by
  show some (px (px c)) xrV = _; rw [px_px]
/-- The signal from the y-neighbour hands over the buffer that receives along y. -/
theorem barPay_y (c : Dev nD) : (barPay (py c) true : sProp 𝕄) = some c yrV := by
  show some (py (py c)) yrV = _; rw [py_py]

/-- The handshake signals hand over the receive buffers; the copies bring both arguments into VMEM. -/
theorem prologue_step (c : Dev nD) :
    Step c iprop(((tok (px c) (.reg barS) false ∗ some c xrV) ∗ (tok (py c) (.reg barS) true ∗ some c yrV))
        ∗ ((tok c (.dma (inS 0)) false ∗ some c bV ∗ pts c bH fullShare (Bc m c)) ∗ (tok c (.dma (inS 1)) false ∗ some c aV ∗ pts c (aHalf c) fullShare (Ac m c)))
        ∗ (pos c (.dma (inS 0)) ∗ pos c (.dma (inS 1))) ∗ records m K ∗ ow c (O₀ c))
      (prologue c) iprop((done c (.dma (inS 0)) ∗ bPay m c) ∗ (done c (.dma (inS 1)) ∗ aPay m c) ∗ ow c (OX c all8)) := fun Q => by
  unfold prologue Run
  rw [wp_bind, ← barPay_x, ← barPay_y]
  iintro ⟨⟨HX, HY⟩, ⟨⟨Htb, HbV, HbH⟩, Hta, HaV, HaH⟩, ⟨Hpb, Hpa⟩, #HR, HO⟩ HQ
  iapply (signal_step m K c (px c) _ (dev1_eq c) false (O₁ c) _) $$ [HX HO]
  · isplitl [HX]; · iexact HX
    isplitr; · iexact HR
    iexact HO
  iintro HO
  rw [wp_bind]
  iapply (signal_step m K c (py c) _ (dev2_eq c) true (OX c all8) _) $$ [HY HO]
  · isplitl [HY]; · iexact HY
    isplitr; · iexact HR
    iexact HO
  iintro HO
  rw [wp_bind]
  iapply (copy_step m K c (inS 0) (src := bH) (dst := bV) fullShare (Bc m c) (Bc m c) amt_b.symm rfl (pay_b m c) _) $$ [Htb HbV HbH]
  · isplitr; · iexact HR
    isplitl [Htb]; · iexact Htb
    isplitl [HbV] <;> iassumption
  iintro Hcb
  rw [wp_bind]
  iapply (copy_step m K c (inS 1) (src := aHalf c) (dst := aV) fullShare (Ac m c) (aC m c) amt_a.symm rfl (pay_a m c) _) $$ [Hta HaV HaH]
  · isplitr; · iexact HR
    isplitl [Hta]; · iexact Hta
    isplitl [HaV] <;> iassumption
  iintro Hca
  rw [wp_bind]
  iapply (wait_step m K c (inS 0) (dst := bV) amt_b.symm (OX c all8) (above_OX (by decide) c all8) _) $$ [Hcb Hpb HO]
  · isplitl [Hcb Hpb]
    · isplitl [Hcb] <;> iassumption
    isplitr; · iexact HR
    iexact HO
  iintro ⟨Hb, HO⟩
  rw [pay_b]
  iapply (wait_step m K c (inS 1) (dst := aV) amt_a.symm (OX c all8) (above_OX (by decide) c all8) Q) $$ [Hca Hpa HO]
  · isplitl [Hca Hpa]
    · isplitl [Hca] <;> iassumption
    isplitr; · iexact HR
    iexact HO
  rw [pay_a]
  iintro ⟨Ha, HO⟩
  iapply HQ
  isplitl [Hb]; · iexact Hb
  isplitl [Ha] <;> iassumption

/-! ## The whole body -/

/-- The semaphores of a device, one conjunct for each: the barrier's, the two loads', the output copies', the exchanges'. -/
def sems (Φ : SemLoc sig → sProp 𝕄) : sProp 𝕄 :=
  iprop(Φ (.reg barS) ∗ Φ (.dma (inS 0)) ∗ Φ (.dma (inS 1))
    ∗ each (fun r => Φ (.dma (outS (loIx r)))) all8 ∗ each (fun r => Φ (.dma (outS (hiIx r)))) all8
    ∗ each (fun r => Φ (.dma (xsS r))) all8 ∗ each (fun r => Φ (.dma (xrS r))) all8
    ∗ each (fun r => Φ (.dma (ysS r))) all8 ∗ each (fun r => Φ (.dma (yrS r))) all8)

/-- Whose cell the token that device `c` spends on semaphore `sm`, duty `d`, is of: its x-neighbour's for what it sends
    along x, its y-neighbour's for what it sends along y, its own otherwise. -/
def payee (sm : SemLoc sig) (d : Bool) (c : Dev nD) : Dev nD :=
  match sm with
  | .reg _ => if d then py c else px c
  | .dma s => if arrOf s = 5 then px c else if arrOf s = 7 then py c else c

/-- Paying is mutual: the payee of the payee is the device itself. -/
theorem payee_payee (sm : SemLoc sig) (d : Bool) (c : Dev nD) : payee sm d (payee sm d c) = c := by
  cases sm with
  | reg s => cases d <;> [exact px_px c; exact py_py c]
  | dma s => unfold payee; dsimp only; split_ifs <;> [exact px_px c; exact py_py c; rfl]

/-- The token with which device `c` pays duty `d` of semaphore `sm`, on whichever device that is. -/
abbrev spends (c : Dev nD) (sm : SemLoc sig) (d : Bool) : sProp 𝕄 := tok (payee sm d c) sm d

/-- What device `c`'s body starts from: -/
def bodyPre (c : Dev nD) : sProp 𝕄 :=
  iprop(records m K ∗ ow c (O₀ c)
    ∗ (pts c aH fullShare (Ac m c) ∗ pts c bH fullShare (Bc m c) ∗ some c oH)
    ∗ (some c aV ∗ some c bV ∗ some c xsV ∗ some c xrV ∗ some c ysV ∗ some c yrV)
    ∗ sems (fun sm => pos c sm) ∗ sems (fun sm => spends c sm false) ∗ tok (py c) (.reg barS) true
    ∗ crd c (.reg barS) 2 ∗ each (fun r => crd c (.dma (xrS r)) N) all8 ∗ each (fun r => crd c (.dma (yrS r)) N) all8)

/-- and what it ends with: the arguments as they were, the output at the sums, every semaphore at zero. -/
def bodyPost (c : Dev nD) : sProp 𝕄 :=
  iprop(ow c 0
    ∗ (pts c aH fullShare (Ac m c) ∗ pts c bH fullShare (Bc m c) ∗ pts c oH fullShare (outC m c))
    ∗ (some c aV ∗ some c bV ∗ some c xsV ∗ some c xrV ∗ some c ysV ∗ some c yrV)
    ∗ sems (fun sm => done c sm))

/-- Of a semaphore that local copies or sends credit, the token is the device's own. -/
theorem spends_own (c : Dev nD) (s : DmaSem sig) (d : Bool) (h5 : arrOf s ≠ 5) (h7 : arrOf s ≠ 7) : (spends c (.dma s) d : sProp 𝕄) = tok c (.dma s) d := by
  unfold spends payee; dsimp only; rw [if_neg h5, if_neg h7]
/-- Of a landing along x, it is the x-neighbour's. -/
theorem spends_x (c : Dev nD) (r : Fin 8) (d : Bool) : (spends c (.dma (xrS r)) d : sProp 𝕄) = tok (px c) (.dma (xrS r)) d := by
  unfold spends payee; dsimp only; rw [if_pos (place_xr r).1]
/-- Of a landing along y, it is the y-neighbour's. -/
theorem spends_y (c : Dev nD) (r : Fin 8) (d : Bool) : (spends c (.dma (yrS r)) d : sProp 𝕄) = tok (py c) (.dma (yrS r)) d := by
  unfold spends payee; dsimp only; rw [(place_yr r).1]; rfl

/-- The tokens a device spends on its semaphores, by name. -/
theorem sems_spends (c : Dev nD) : (sems (fun sm => spends c sm false) : sProp 𝕄)
    = iprop(tok (px c) (.reg barS) false ∗ tok c (.dma (inS 0)) false ∗ tok c (.dma (inS 1)) false
      ∗ each (fun r => tok c (.dma (outS (loIx r))) false) all8 ∗ each (fun r => tok c (.dma (outS (hiIx r))) false) all8
      ∗ each (fun r => tok c (.dma (xsS r)) false) all8 ∗ each (fun r => tok (px c) (.dma (xrS r)) false) all8
      ∗ each (fun r => tok c (.dma (ysS r)) false) all8 ∗ each (fun r => tok (py c) (.dma (yrS r)) false) all8) := by
  unfold sems
  dsimp only
  rw [spends_own c (inS 0) false (by decide) (by decide), spends_own c (inS 1) false (by decide) (by decide),
    show (fun r => (spends c (.dma (outS (loIx r))) false : sProp 𝕄)) = fun r => tok c (.dma (outS (loIx r))) false from
      funext fun r => spends_own c _ false (by rw [(place_own r).1]; decide) (by rw [(place_own r).1]; decide),
    show (fun r => (spends c (.dma (outS (hiIx r))) false : sProp 𝕄)) = fun r => tok c (.dma (outS (hiIx r))) false from
      funext fun r => spends_own c _ false (by rw [(place_peer r).1]; decide) (by rw [(place_peer r).1]; decide),
    show (fun r => (spends c (.dma (xsS r)) false : sProp 𝕄)) = fun r => tok c (.dma (xsS r)) false from
      funext fun r => spends_own c _ false (by rw [(place_xs r).1]; decide) (by rw [(place_xs r).1]; decide),
    show (fun r => (spends c (.dma (ysS r)) false : sProp 𝕄)) = fun r => tok c (.dma (ysS r)) false from
      funext fun r => spends_own c _ false (by rw [(place_ys r).1]; decide) (by rw [(place_ys r).1]; decide),
    show (fun r => (spends c (.dma (xrS r)) false : sProp 𝕄)) = fun r => tok (px c) (.dma (xrS r)) false from funext fun r => spends_x c r false,
    show (fun r => (spends c (.dma (yrS r)) false : sProp 𝕄)) = fun r => tok (py c) (.dma (yrS r)) false from funext fun r => spends_y c r false]
  rfl

/-- Two lists of resources pair up chunk by chunk. -/
theorem each_zip (Φ Ψ : Fin 8 → sProp 𝕄) (l : List (Fin 8)) : ⊢ iprop(each Φ l -∗ each Ψ l -∗ each (fun r => iprop(Φ r ∗ Ψ r)) l) := by
  iintro H1 H2
  iapply (each_sep Φ Ψ l).2
  isplitl [H1] <;> iassumption

/-- The first phase: every chunk of the partial product computed, and sent; the barrier's wait lies between the first
    chunk's computation and its sending. -/
theorem phaseX (c : Dev nD) (k : P (F := F) PUnit) (Q : PUnit → sProp 𝕄) :
    iprop(records m K ∗ ow c (OX c all8) ∗ pts c aV fullShare (aC m c) ∗ some c xsV ∗ (crd c (.reg barS) 2 ∗ pos c (.reg barS))
        ∗ each (fun r => tok c (.dma (xsS r)) false) all8 ∗ each (fun r => tok (px c) (.dma (xrS r)) false) all8)
      ⊢ iprop((ow c (OY c all8) ∗ pts c aV fullShare (aC m c) ∗ done c (.reg barS) ∗ some (py c) yrV
          ∗ each (fun r => crd c (.dma (xsS r)) N) all8 ∗ each (fun r => pts c (chunk xsV r) fullShare.right (stack (part m c))) all8
          -∗ Run c k Q)
        -∗ Run c (computeX (Bc m c) 0 >>= fun _ => semWaitWord barS 2#32 >>= fun _ => sendX c 0 >>= fun _ =>
            steps (stepX (Bc m c) c) [1, 2, 3, 4, 5, 6, 7] >>= fun _ => k) Q) := by
  unfold Run
  iintro ⟨#HR, HO, Ha, Hxs, ⟨Hcb, Hpb⟩, Ht, Htr⟩ HQ
  ihave Hxs := (some_cut8 c xsV) $$ Hxs
  ihave Hxs := (show (each (fun r => some c (chunk xsV r)) all8 : sProp 𝕄) ⊢ iprop(some c (chunk xsV 0) ∗ each (fun r => some c (chunk xsV r)) [1, 2, 3, 4, 5, 6, 7]) from .rfl) $$ Hxs
  icases Hxs with ⟨Hx0, Hxs⟩
  rw [wp_bind]
  iapply (computeX_step m c 0 _) $$ [Hx0 Ha]
  · isplitl [Hx0] <;> iassumption
  iintro ⟨Hx0, Ha⟩
  rw [wp_bind]
  iapply (barrier_step m K c _) $$ [Hcb Hpb HO]
  · isplitl [Hcb Hpb]
    · isplitl [Hcb] <;> iassumption
    isplitr; · iexact HR
    iexact HO
  iintro ⟨⟨Hz, Hxr, Hyr⟩, HO⟩
  ihave Hxr := (some_cut8 (px c) xrV) $$ Hxr
  ihave Hg := (each_zip _ _ all8) $$ Htr Hxr
  ihave Hg := (each_zip _ _ all8) $$ Ht Hg
  ihave Hg := (show (each (goX c) all8 : sProp 𝕄) ⊢ iprop(goX c 0 ∗ each (goX c) [1, 2, 3, 4, 5, 6, 7]) from .rfl) $$ Hg
  icases Hg with ⟨Hg0, Hg⟩
  rw [wp_bind]
  iapply (sendX_step m K c 0 [1, 2, 3, 4, 5, 6, 7] _) $$ [Hg0 Hx0 HO]
  · isplitl [Hg0 Hx0]
    · isplitl [Hg0] <;> iassumption
    isplitr; · iexact HR
    iexact HO
  iintro ⟨Hw0, HO⟩
  ihave Hxg := (each_zip _ _ [1, 2, 3, 4, 5, 6, 7]) $$ Hxs Hg
  rw [wp_bind]
  iapply (Step.loop (I := fun l => iprop(pts c aV fullShare (aC m c) ∗ records m K ∗ ow c (OX c l))) (stepX_step m K c) [1, 2, 3, 4, 5, 6, 7] _) $$ [Hxg Ha HO]
  · isplitl [Hxg]; · iexact Hxg
    isplitl [Ha]; · iexact Ha
    isplitr; · iexact HR
    iexact HO
  iintro ⟨Hw, Ha, -, HO⟩
  ihave Hw := (show iprop(wentX m c 0 ∗ each (wentX m c) [1, 2, 3, 4, 5, 6, 7]) ⊢ (each (wentX m c) all8 : sProp 𝕄) from .rfl) $$ [Hw0 Hw]
  · isplitl [Hw0] <;> iassumption
  ihave Hw := (each_sep _ _ all8).1 $$ Hw
  icases Hw with ⟨Hcs, Hxs⟩
  iapply HQ
  isplitl [HO]
  · rw [show OY c all8 = OX c [] from (add_zero _).symm]; iexact HO
  isplitl [Ha]; · iexact Ha
  isplitl [Hz]; · iexact Hz
  isplitl [Hyr]; · iexact Hyr
  isplitl [Hcs] <;> iassumption

/-- The second phase: every chunk of the sum computed, sent and copied out. -/
theorem phaseY (c : Dev nD) : Step c
    iprop(records m K ∗ ow c (OY c all8) ∗ (each (fun r => crd c (.dma (xrS r)) N) all8 ∗ each (fun r => pos c (.dma (xrS r))) all8)
      ∗ each (fun r => pts c (chunk xsV r) fullShare.right (stack (part m c))) all8 ∗ some c ysV
      ∗ (each (fun r => tok c (.dma (ysS r)) false) all8 ∗ each (fun r => tok (py c) (.dma (yrS r)) false) all8 ∗ some (py c) yrV)
      ∗ each (fun r => tok c (.dma (outS (loIx r))) false) all8 ∗ each (fun r => some c (outOwn c r)) all8)
    (steps (stepY c) all8)
    iprop(ow c 0 ∗ each (fun r => done c (.dma (xrS r))) all8 ∗ each (fun r => pts c (chunk xsV r) fullShare.right (stack (part m c))) all8
      ∗ each (fun r => xrPay m c r) all8 ∗ each (fun r => crd c (.dma (ysS r)) N) all8 ∗ each (fun r => crd c (.dma (outS (loIx r))) N) all8) := fun Q => by
  iintro ⟨#HR, HO, ⟨Hc, Hp⟩, Hx, Hys, ⟨Ht, Htr, Hyr⟩, Hto, Ho⟩ HQ
  ihave Hys := (some_cut8 c ysV) $$ Hys
  ihave Hyr := (some_cut8 (py c) yrV) $$ Hyr
  ihave H1 := (each_zip _ _ all8) $$ Hc Hp
  ihave H2 := (each_zip _ _ all8) $$ Htr Hyr
  ihave H2 := (each_zip _ _ all8) $$ Ht H2
  ihave H3 := (each_zip _ _ all8) $$ Hto Ho
  ihave H := (each_zip _ _ all8) $$ H2 H3
  ihave H := (each_zip _ _ all8) $$ Hys H
  ihave H := (each_zip _ _ all8) $$ Hx H
  ihave H := (each_zip _ _ all8) $$ H1 H
  iapply (Step.loop (I := fun l => iprop(records m K ∗ ow c (OY c l))) (stepY_step m K c) all8 Q) $$ [H HO]
  · isplitl [H]; · iexact H
    isplitr; · iexact HR
    iexact HO
  iintro ⟨H, -, HO⟩
  ihave H := (each_sep _ _ all8).1 $$ H
  icases H with ⟨Hz, H⟩
  ihave H := (each_sep _ _ all8).1 $$ H
  icases H with ⟨Hx, H⟩
  ihave H := (each_sep _ _ all8).1 $$ H
  icases H with ⟨Hr, H⟩
  ihave H := (each_sep _ _ all8).1 $$ H
  icases H with ⟨Hcy, Hco⟩
  iapply HQ
  isplitl [HO]; · iexact HO
  isplitl [Hz]; · iexact Hz
  isplitl [Hx]; · iexact Hx
  isplitl [Hr]; · iexact Hr
  isplitl [Hcy] <;> iassumption

/-- The third phase: every chunk of the neighbour's sum received and copied out. -/
theorem phaseOut (c : Dev nD) : Step c
    iprop(records m K ∗ ow c 0 ∗ (each (fun r => crd c (.dma (yrS r)) N) all8 ∗ each (fun r => pos c (.dma (yrS r))) all8)
      ∗ each (fun r => tok c (.dma (outS (hiIx r))) false) all8 ∗ each (fun r => some c (outPeer c r)) all8)
    (steps (stepOut c) all8)
    iprop(ow c 0 ∗ each (fun r => done c (.dma (yrS r))) all8 ∗ each (fun r => crd c (.dma (outS (hiIx r))) N) all8) := fun Q => by
  iintro ⟨#HR, HO, ⟨Hc, Hp⟩, Ht, Ho⟩ HQ
  ihave H1 := (each_zip _ _ all8) $$ Hc Hp
  ihave H := (each_zip _ _ all8) $$ Ht Ho
  ihave H := (each_zip _ _ all8) $$ H1 H
  iapply (Step.loop (I := fun _ => iprop(records m K ∗ ow c 0)) (stepOut_step m K c) all8 Q) $$ [H HO]
  · isplitl [H]; · iexact H
    isplitr; · iexact HR
    iexact HO
  iintro ⟨H, -, HO⟩
  ihave H := (each_sep _ _ all8).1 $$ H
  icases H with ⟨Hz, Hc⟩
  iapply HQ
  isplitl [HO]; · iexact HO
  isplitl [Hz] <;> iassumption

/-- A draining loop: each wait turns its credit and position into a zero semaphore and the payload. -/
theorem drain (c : Dev nD) (f : Fin 8 → P (F := F) PUnit) (S : Fin 8 → DmaSem sig) (R : Fin 8 → sProp 𝕄)
    (h : ∀ r, Step c iprop((crd c (.dma (S r)) N ∗ pos c (.dma (S r))) ∗ records m K ∗ ow c 0) (f r)
      iprop((done c (.dma (S r)) ∗ R r) ∗ records m K ∗ ow c 0)) :
    Step c iprop(records m K ∗ ow c 0 ∗ each (fun r => crd c (.dma (S r)) N) all8 ∗ each (fun r => pos c (.dma (S r))) all8) (steps f all8)
      iprop(ow c 0 ∗ each (fun r => done c (.dma (S r))) all8 ∗ each R all8) := fun Q => by
  iintro ⟨#HR, HO, Hc, Hp⟩ HQ
  ihave H := (each_zip _ _ all8) $$ Hc Hp
  iapply (Step.loop (I := fun _ => iprop(records m K ∗ ow c 0)) (fun r _ => h r) all8 Q) $$ [H HO]
  · isplitl [H]; · iexact H
    isplitr; · iexact HR
    iexact HO
  iintro ⟨H, -, HO⟩
  ihave H := (each_sep _ _ all8).1 $$ H
  icases H with ⟨Hz, Hr⟩
  iapply HQ
  isplitl [HO]; · iexact HO
  isplitl [Hz] <;> iassumption

/-- The last loop, which waits for both of a chunk's sends. -/
theorem phaseSent (c : Dev nD) : Step c
    iprop(records m K ∗ ow c 0 ∗ (each (fun r => crd c (.dma (xsS r)) N) all8 ∗ each (fun r => pos c (.dma (xsS r))) all8)
      ∗ each (fun r => crd c (.dma (ysS r)) N) all8 ∗ each (fun r => pos c (.dma (ysS r))) all8)
    (steps stepSent all8)
    iprop(ow c 0 ∗ (each (fun r => done c (.dma (xsS r))) all8 ∗ each (fun r => xsPay m c r) all8)
      ∗ each (fun r => done c (.dma (ysS r))) all8 ∗ each (fun r => ysPay m c r) all8) := fun Q => by
  iintro ⟨#HR, HO, ⟨Hc, Hp⟩, Hc', Hp'⟩ HQ
  ihave H1 := (each_zip _ _ all8) $$ Hc Hp
  ihave H2 := (each_zip _ _ all8) $$ Hc' Hp'
  ihave H := (each_zip _ _ all8) $$ H1 H2
  iapply (Step.loop (I := fun _ => iprop(records m K ∗ ow c 0)) (fun r _ => stepSent_step m K c r) all8 Q) $$ [H HO]
  · isplitl [H]; · iexact H
    isplitr; · iexact HR
    iexact HO
  iintro ⟨H, -, HO⟩
  ihave H := (each_sep _ _ all8).1 $$ H
  icases H with ⟨H1, H2⟩
  ihave H1 := (each_sep _ _ all8).1 $$ H1
  ihave H2 := (each_sep _ _ all8).1 $$ H2
  iapply HQ
  isplitl [HO]; · iexact HO
  isplitl [H1] <;> iassumption

/-- Device `c` runs the whole body. -/
theorem body_run (c : Dev nD) : Step c (bodyPre m K c) body (bodyPost m c) := fun Q => by
  unfold bodyPre bodyPost body Run
  rw [sems_spends]
  unfold sems
  iintro ⟨#HR, HO, ⟨HaH, HbH, HoH⟩, ⟨HaV, HbV, Hxs, Hxr, Hys, Hyr⟩, ⟨P0, P1, P2, P3, P4, P5, P6, P7, P8⟩,
    ⟨T0, T1, T2, T3, T4, T5, T6, T7, T8⟩, T9, C0, C6, C8⟩ HQ
  ihave HaH := (cutA c (Ac m c)).1 $$ HaH
  icases HaH with ⟨HaH, Hrest⟩
  ihave HoH := (some_cutOut c) $$ HoH
  icases HoH with ⟨Hoo, Hop⟩
  simp only [Prog.lift, Prog.bind_op, Prog.bind_ret, wp_deviceId]
  rw [wp_bind]
  iapply (prologue_step m K c _) $$ [T0 Hxr T9 Hyr T1 HbV HbH T2 HaV HaH P1 P2 HO]
  · isplitl [T0 Hxr T9 Hyr]
    · isplitl [T0 Hxr]
      · isplitl [T0] <;> iassumption
      isplitl [T9] <;> iassumption
    isplitl [T1 HbV HbH T2 HaV HaH]
    · isplitl [T1 HbV HbH]
      · isplitl [T1]; · iexact T1
        isplitl [HbV] <;> iassumption
      isplitl [T2]; · iexact T2
      isplitl [HaV] <;> iassumption
    isplitl [P1 P2]
    · isplitl [P1] <;> iassumption
    isplitr; · iexact HR
    iexact HO
  iintro ⟨⟨Z1, HbV, HbH⟩, ⟨Z2, HaV, HaH⟩, HO⟩
  rw [wp_bind]
  iapply (loadB_run m c _) $$ HbV
  iintro HbV
  iapply (phaseX m K c _ Q) $$ [HO HaV Hxs C0 P0 T5 T6]
  · isplitr; · iexact HR
    isplitl [HO]; · iexact HO
    isplitl [HaV]; · iexact HaV
    isplitl [Hxs]; · iexact Hxs
    isplitl [C0 P0]
    · isplitl [C0] <;> iassumption
    isplitl [T5] <;> iassumption
  iintro ⟨HO, HaV, Z0, Hyr, C5, Hxs⟩
  unfold Run
  rw [wp_bind]
  iapply (phaseY m K c _) $$ [HO C6 P6 Hxs Hys T7 T8 Hyr T3 Hoo]
  · isplitr; · iexact HR
    isplitl [HO]; · iexact HO
    isplitl [C6 P6]
    · isplitl [C6] <;> iassumption
    isplitl [Hxs]; · iexact Hxs
    isplitl [Hys]; · iexact Hys
    isplitl [T7 T8 Hyr]
    · isplitl [T7]; · iexact T7
      isplitl [T8] <;> iassumption
    isplitl [T3] <;> iassumption
  iintro ⟨HO, Z6, Hxs, Hxr, C7, C3⟩
  rw [wp_bind]
  iapply (phaseOut m K c _) $$ [HO C8 P8 T4 Hop]
  · isplitr; · iexact HR
    isplitl [HO]; · iexact HO
    isplitl [C8 P8]
    · isplitl [C8] <;> iassumption
    isplitl [T4] <;> iassumption
  iintro ⟨HO, Z8, C4⟩
  rw [wp_bind]
  iapply (drain m K c (waitOwn c) (fun r => outS (loIx r)) (ownPay m c) (waitOwn_step m K c) _) $$ [HO C3 P3]
  · isplitr; · iexact HR
    isplitl [HO]; · iexact HO
    isplitl [C3] <;> iassumption
  iintro ⟨HO, Z3, Hown⟩
  rw [wp_bind]
  iapply (drain m K c (waitPeer c) (fun r => outS (hiIx r)) (peerPay m c) (waitPeer_step m K c) _) $$ [HO C4 P4]
  · isplitr; · iexact HR
    isplitl [HO]; · iexact HO
    isplitl [C4] <;> iassumption
  iintro ⟨HO, Z4, Hpeer⟩
  iapply (phaseSent m K c Q) $$ [HO C5 P5 C7 P7]
  · isplitr; · iexact HR
    isplitl [HO]; · iexact HO
    isplitl [C5 P5]
    · isplitl [C5] <;> iassumption
    isplitl [C7] <;> iassumption
  iintro ⟨HO, ⟨Z5, Hxl⟩, Z7, Hyl⟩
  ihave Hown := (each_sep _ _ all8).1 $$ Hown
  icases Hown with ⟨Hoo, Hyr⟩
  ihave Hpeer := (each_sep _ _ all8).1 $$ Hpeer
  icases Hpeer with ⟨Hop, Hyrv⟩
  iapply HQ
  isplitl [HO]; · iexact HO
  isplitl [HaH Hrest HbH Hoo Hop]
  · isplitl [HaH Hrest]
    · iapply (cutA c (Ac m c)).2; isplitl [HaH] <;> iassumption
    isplitl [HbH]; · iexact HbH
    iapply (Entails.of_eq (cutOut c (outC m c)).symm); isplitl [Hoo] <;> iassumption
  isplitl [HaV HbV Hxl Hxs Hxr Hyl Hyr Hyrv]
  · isplitl [HaV]; · unfold some; iexists _; iexact HaV
    isplitl [HbV]; · unfold some; iexists _; iexact HbV
    isplitl [Hxl Hxs]
    · iapply (join8_halves c xsV (stack (part m c))); isplitl [Hxl] <;> iassumption
    isplitl [Hxr]; · iapply (join8 c xrV (stack (part m (px c)))); iexact Hxr
    isplitl [Hyl Hyr]
    · iapply (join8_halves c ysV (stack (sumC m c))); isplitl [Hyl] <;> iassumption
    iapply (join8 c yrV (stack (sumC m (py c)))); iexact Hyrv
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7] <;> iassumption

end Cert.KernelIdealProof

end
-- ==== Proof.KernelIdealLaunch.lean ====
/-
The launch: the cells' counters become invariants, the tokens go to the devices that spend them, every device runs its
body, and the arrays and the counters are read off the final state.
-/
module

public import proofs.«01_k».proof.Proof.KernelIdealDevice
public import proofs.«01_k».proof.Proof.Gen.KernelIdeal.Launch
public import Idealize.ShloMosaic.Lib.Pipeline.BigSepL
public import Idealize.ShloMosaic.Lib.Pipeline.CollectiveSegs
public import Idealize.ShloMosaic.Lib.Quiescent

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Every semaphore is named once -/

/-- The semaphores in the order `sems` names them. -/
def semList : List (SemLoc sig) :=
  [.reg barS] ++ ([.dma (inS 0)] ++ ([.dma (inS 1)]
    ++ (all8.map (fun r => .dma (outS (loIx r))) ++ (all8.map (fun r => .dma (outS (hiIx r)))
    ++ (all8.map (fun r => .dma (xsS r)) ++ (all8.map (fun r => .dma (xrS r))
    ++ (all8.map (fun r => .dma (ysS r)) ++ all8.map (fun r => .dma (yrS r)))))))))

/-- The conjunction over the list of chunks, in either form. -/
theorem each_list (Φ : Fin 8 → sProp 𝕄) : bigSepL all8 Φ = each Φ all8 := by
  rw [← each_all, bigSep_univ_eq_bigSepL all8 (by decide) (by decide)]

/-- The conjunction over all semaphores, cut into the arrays of the kernel. -/
theorem sems_univ (Φ : SemLoc sig → sProp 𝕄) : bigSep Finset.univ Φ = sems Φ := by
  rw [bigSep_univ_eq_bigSepL semList (by decide) (by decide)]
  unfold semList sems
  simp only [BI.bigSepL_append, BI.bigSepL_map, bigSepL_singleton, each_list]

/-- The kernel's own semaphores are the fifty of its copies; -/
abbrev osem : DmaSem sig → SemLoc sig := fun s => .dma s
/-- The scoped semaphores are told apart by their numbers. -/
theorem osem_injective : Function.Injective osem := fun a b h => by injection h
/-- with the barrier semaphore they are all. -/
theorem univ_sems : (Finset.univ : Finset (SemLoc sig)) = insert (.reg barS) (Finset.univ.map ⟨osem, osem_injective⟩) := by decide

/-- The counters of the region and the barrier's are all the counters. -/
theorem counters_eq (c : Dev nD) :
    iprop(Pipeline.ownSems0 (Ix := Unit) (Name := ℕ) (U := UU) (Lvl := ℕ) (Val := Elt F) (τ := τ) osem c ∗ unscopedSems0 c)
      ⊣⊢ (bigSep Finset.univ fun sm => done c sm : sProp 𝕄) := by
  have hb : (unscopedSems0 c : sProp 𝕄) = done c (.reg barS) := by
    unfold unscopedSems0; rw [bigSep_eq_bigSepL_of_eq [SemLoc.reg barS] (by decide) (by decide)]; rfl
  have ho : (bigSep (Finset.univ.map ⟨osem, osem_injective⟩) fun sm => (done c sm : sProp 𝕄))
      = Pipeline.ownSems0 (Ix := Unit) (Name := ℕ) (U := UU) (Lvl := ℕ) (Val := Elt F) (τ := τ) osem c := by
    rw [bigSep_map]; rfl
  have hi : (bigSep (insert (.reg barS) (Finset.univ.map ⟨osem, osem_injective⟩)) fun sm => (done c sm : sProp 𝕄))
      = iprop(done c (.reg barS) ∗ bigSep (Finset.univ.map ⟨osem, osem_injective⟩) fun sm => (done c sm : sProp 𝕄)) :=
    BI.bigSep_insert (by decide)
  rw [univ_sems, hi, hb, ho]
  exact ⟨by iintro ⟨H1, H2⟩; isplitl [H2] <;> iassumption, by iintro ⟨H1, H2⟩; isplitl [H2] <;> iassumption⟩

/-! ## The cells and their tokens -/

/-- The counter named by a device and a semaphore. -/
abbrev kcell (p : Dev nD × SemLoc sig) : GSem nD τ sig := cell p.1 p.2
/-- Different names, different counters. -/
theorem kcell_injective : Function.Injective kcell := by
  rintro ⟨c, sm⟩ ⟨c', sm'⟩ h
  have h1 : c = c' := congrArg (fun g : GSem nD τ sig => g.1.1) h
  have h2 : sm = sm' := congrArg Prod.snd h
  rw [h1, h2]
/-- All counters. -/
def cellSet : Finset (GSem nD τ sig) := Finset.univ.map ⟨kcell, kcell_injective⟩

/-- The token named by a device, a semaphore and a duty. -/
abbrev tokOf (p : Dev nD × SemLoc sig × Bool) : GSem nD τ sig × ℕ × Bool := (cell p.1 p.2.1, 0, p.2.2)
/-- Different names, different tokens. -/
theorem tokOf_injective : Function.Injective tokOf := by
  rintro ⟨c, sm, d⟩ ⟨c', sm', d'⟩ h
  have h1 : c = c' := congrArg (fun x : GSem nD τ sig × ℕ × Bool => x.1.1.1) h
  have h2 : sm = sm' := congrArg (fun x : GSem nD τ sig × ℕ × Bool => x.1.2) h
  have h3 : d = d' := congrArg (fun x : GSem nD τ sig × ℕ × Bool => x.2.2) h
  rw [h1, h2, h3]
/-- All tokens. -/
def tokSet : Finset (GSem nD τ sig × ℕ × Bool) := Finset.univ.map ⟨tokOf, tokOf_injective⟩

/-- The ghost state the run starts from. -/
def u₀ : UU := (initOf (Pipeline.cells cfgs cellOf_inj) (Pipeline.launchToks cfgs cellOf_inj), initOf cellSet tokSet)

/-- The tokens of device `c`'s own cells, and those device `c` spends. -/
def minted (c : Dev nD) : sProp 𝕄 := bigSep Finset.univ fun p : SemLoc sig × Bool => tok c p.1 p.2
/-- All tokens that device `c` pays with. -/
def spent (c : Dev nD) : sProp 𝕄 := bigSep Finset.univ fun p : SemLoc sig × Bool => spends c p.1 p.2

/-- The rounds of all of a device's counters, at the start. -/
abbrev states (c : Dev nD) : sProp 𝕄 := bigSep Finset.univ fun sm => roundState ER (rd m) (cell c sm) 0
/-- The records that the first round was reached. -/
abbrev marks (c : Dev nD) : sProp 𝕄 := bigSep Finset.univ fun sm => reached ER (cell c sm) 0
/-- The positions of a device's waits. -/
abbrev posns (c : Dev nD) : sProp 𝕄 := bigSep Finset.univ fun sm => pos c sm
/-- What device `c` is dealt. -/
def G (c : Dev nD) : sProp 𝕄 := iprop(states m c ∗ marks c ∗ posns c ∗ minted c)
/-- The invariants of all cells and that their round is reached. -/
def opened (K : Dev nD × SemLoc sig → ℕ) : sProp 𝕄 :=
  iprop((bigSep Finset.univ fun p : Dev nD × SemLoc sig => cellInv ER (rd m) (K p) (cell p.1 p.2))
    ∗ (bigSep Finset.univ fun p : Dev nD × SemLoc sig => reached ER (cell p.1 p.2) 0))
/-- The records of the opened counters can be kept and copied. -/
instance opened_persistent (K : Dev nD × SemLoc sig → ℕ) : BI.Persistent (opened m K) := by unfold opened; infer_instance
/-- What it has once the invariants are made and the tokens dealt out. -/
def G' (c : Dev nD) : sProp 𝕄 := iprop(∃ K, opened m K ∗ posns c ∗ spent c)

/-- The initial ghost state makes every device's rounds, marks, positions and tokens. -/
theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun sm => Φ (cell c sm) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, bigSep_univ_prod]; rfl
  iintro HX
  imod (Rounds.fund ER (rd m) cellSet tokSet) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-- A device's counters at zero and its ghost state become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm => iprop(∃ κ : ℕ, cellInv ER (rd m) κ (cell c sm))) ∗ marks c ∗ posns c ∗ minted c) := by
  unfold G
  iintro ⟨Hos, Hus, Hst, Hr, Hat, Htok⟩
  ihave Hv := (counters_eq (F := F) c).1 $$ [Hos Hus]
  · isplitl [Hos] <;> iassumption
  imod (show iprop((bigSep Finset.univ fun sm => done c sm) ∗ states m c)
      ⊢ (|={Set.univ}=> bigSep Finset.univ fun sm => iprop(∃ κ : ℕ, cellInv ER (rd m) κ (cell c sm)) : sProp 𝕄) from by
        rw [← bigSep_sep']
        exact (bigSep_mono fun sm _ => (Rounds.body_intro ER (rd m) (cell c sm)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- The tokens dealt out: each from the cell's owner to the device that spends it. -/
theorem deal : (bigSep Finset.univ fun c : Dev nD => (minted c : sProp 𝕄)) = bigSep Finset.univ fun c : Dev nD => spent c := by
  unfold minted spent
  rw [BI.bigSep_univ_comm, BI.bigSep_univ_comm (fun (c : Dev nD) (p : SemLoc sig × Bool) => (spends c p.1 p.2 : sProp 𝕄))]
  refine BI.bigSep_congr fun p _ => ?_
  exact BI.bigSep_univ_equiv (⟨payee p.1 p.2, payee p.1 p.2, payee_payee p.1 p.2, payee_payee p.1 p.2⟩ : Dev nD ≃ Dev nD)
    (fun c : Dev nD => (tok c p.1 p.2 : sProp 𝕄))

/-- The tokens go from the devices whose counters they belong to, to the devices that pay with them. -/
theorem regroup :
    (bigSep Finset.univ fun c : Dev nD => iprop((bigSep Finset.univ fun sm => iprop(∃ κ : ℕ, cellInv ER (rd m) κ (cell c sm))) ∗ marks c ∗ posns c ∗ minted c) : sProp 𝕄)
      ⊢ bigSep Finset.univ (G' m) := by
  rw [bigSep_sep', bigSep_sep', bigSep_sep', deal,
    ← bigSep_univ_prod (fun p : Dev nD × SemLoc sig => iprop(∃ κ : ℕ, cellInv ER (rd m) κ (cell p.1 p.2))),
    ← bigSep_univ_prod (fun p : Dev nD × SemLoc sig => (reached ER (cell p.1 p.2) 0 : sProp 𝕄))]
  iintro ⟨HI, #HR, Hat, Htok⟩
  ihave HK := (BI.bigSep_exists_pi Finset.univ (fun (p : Dev nD × SemLoc sig) (κ : ℕ) => (cellInv ER (rd m) κ (cell p.1 p.2) : sProp 𝕄))) $$ HI
  icases HK with ⟨%K, #HI⟩
  iapply (BI.bigSep_with_persistent (R := opened m K) (Φ := fun c => iprop(posns c ∗ spent c)) fun c _ => by
    unfold G'
    iintro H
    iexists K
    iexact H)
  isplitr
  · unfold opened; isplitl; · iexact HI
    iexact HR
  · rw [bigSep_sep']
    isplitl [Hat] <;> iassumption

/-- Every device's counters at once become invariants, and the tokens change hands. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- Of the tokens a device spends: duty `false` of every semaphore, and `true` of its y-neighbour's barrier. -/
theorem spent_split (c : Dev nD) : (spent c : sProp 𝕄) ⊢ iprop(sems (fun sm => spends c sm false) ∗ tok (py c) (.reg barS) true) := by
  unfold spent
  rw [bigSep_univ_prod]
  rw [BI.bigSep_congr (Ψ := fun sm => iprop(spends c sm false ∗ spends c sm true)) fun sm _ => by
      rw [bigSep_univ_eq_bigSepL [false, true] (by decide) (by decide), bigSepL_cons_cons, bigSepL_singleton]; rfl,
    bigSep_sep', sems_univ]
  exact BI.sep_mono_r (show (bigSep Finset.univ fun sm => (spends c sm true : sProp 𝕄)) ⊢ spends c (.reg barS) true from bigSep_elim (Finset.mem_univ _))

/-! ## The credits at launch -/

/-- How often a semaphore is one of the listed chunks' in an array. -/
def count (S : Fin 8 → DmaSem sig) (sm : SemLoc sig) : List (Fin 8) → ℕ
  | [] => 0
  | r :: l => count S sm l + if sm = .dma (S r) then 1 else 0

/-- A tally on one counter, read at another. -/
theorem at_iff (c d : Dev nD) (sm sm' : SemLoc sig) (k : ℕ) :
    (tallyAt (cell d sm') () k : CellTallies nD τ sig Unit) (cell c sm) () = if c = d then (if sm = sm' then k else 0) else 0 := by
  rw [tallyAt_apply]
  by_cases h : c = d
  · by_cases h' : sm = sm'
    · rw [if_pos h, if_pos h', h, h', if_pos ⟨rfl, rfl⟩]
    · rw [if_pos h, if_neg h', if_neg fun e => h' (congrArg Prod.snd e.1)]
  · rw [if_neg h, if_neg fun e => h (congrArg (fun g : GSem nD τ sig => g.1.1) e.1)]

/-- What is owed on a list of chunks, read at one counter. -/
theorem owed_at (S : Fin 8 → DmaSem sig) (c d : Dev nD) (sm : SemLoc sig) :
    ∀ l, owed S d l (cell c sm) () = if c = d then N * count S sm l else 0
  | [] => by unfold owed count; rw [Nat.mul_zero]; split <;> rfl
  | r :: l => by
    unfold owed count
    rw [Pi.add_apply, Finsupp.add_apply, owed_at S c d sm l, at_iff]
    by_cases h : c = d
    · rw [if_pos h, if_pos h, if_pos h, Nat.mul_add]
      by_cases h' : sm = .dma (S r)
      · rw [if_pos h', if_pos h', Nat.mul_one]
      · rw [if_neg h', if_neg h', Nat.mul_zero]
    · rw [if_neg h, if_neg h, if_neg h]

/-- What arrives from the x-neighbour and from the y-neighbour. -/
def fromX (sm : SemLoc sig) : ℕ := N * count xrS sm all8 + if sm = .reg barS then 1 else 0
/-- What the y-neighbour owes on a semaphore. -/
def fromY (sm : SemLoc sig) : ℕ := N * count yrS sm all8 + if sm = .reg barS then 1 else 0

/-- What device `d` owes on a counter of device `c`: only neighbours owe. -/
theorem owes_at (d c : Dev nD) (sm : SemLoc sig) :
    O₀ d (cell c sm) () = (if d = px c then fromX sm else 0) + if d = py c then fromY sm else 0 := by
  have hx : (c = px d) = (d = px c) := propext ⟨fun h => by rw [h, px_px], fun h => by rw [h, px_px]⟩
  have hy : (c = py d) = (d = py c) := propext ⟨fun h => by rw [h, py_py], fun h => by rw [h, py_py]⟩
  unfold O₀ O₁ OX OY fromX fromY
  simp only [Pi.add_apply, Finsupp.add_apply, owed_at, at_iff, hx, hy]
  split_ifs <;> omega

/-- The credit that the launch gives for a counter. -/
theorem launch_at (c : Dev nD) (sm : SemLoc sig) (k : ℕ) (h : fromX sm + fromY sm = k) :
    tallyOn (cell c sm) (launchCredit (Pipeline.owing O₀) 0 (cell c sm)) = (tallyAt (cell c sm) () k : CellTallies nD τ sig Unit) := by
  unfold tallyAt; refine congrArg _ (Finsupp.ext fun u => ?_); cases u
  rw [Pipeline.launchCredit_owing, Finsupp.single_eq_same, Finset.sum_congr rfl fun d _ => owes_at d c sm, Finset.sum_add_distrib,
    Finset.sum_ite_eq' Finset.univ (px c) fun _ => fromX sm, Finset.sum_ite_eq' Finset.univ (py c) fun _ => fromY sm,
    if_pos (Finset.mem_univ _), if_pos (Finset.mem_univ _), h]

/-- Two units on the barrier. -/
theorem from_bar : fromX (.reg barS) + fromY (.reg barS) = 2 := by
  unfold fromX fromY
  rw [show count xrS (.reg barS) all8 = 0 by decide, show count yrS (.reg barS) all8 = 0 by decide]; rfl
/-- One chunk on each landing along x. -/
theorem from_xr (r : Fin 8) : fromX (.dma (xrS r)) + fromY (.dma (xrS r)) = N := by
  unfold fromX fromY
  rw [show count xrS (.dma (xrS r)) all8 = 1 by revert r; decide, show count yrS (.dma (xrS r)) all8 = 0 by revert r; decide,
    if_neg (fun h => by cases h)]; omega
/-- One chunk on each landing along y. -/
theorem from_yr (r : Fin 8) : fromX (.dma (yrS r)) + fromY (.dma (yrS r)) = N := by
  unfold fromX fromY
  rw [show count xrS (.dma (yrS r)) all8 = 0 by revert r; decide, show count yrS (.dma (yrS r)) all8 = 1 by revert r; decide,
    if_neg (fun h => by cases h)]; omega

/-- The launch's credits are the barrier's two units and the sixteen landings. -/
theorem creds (c : Dev nD) : (Pipeline.launchCred O₀ c : sProp 𝕄)
    ⊢ iprop(crd c (.reg barS) 2 ∗ each (fun r => crd c (.dma (xrS r)) N) all8 ∗ each (fun r => crd c (.dma (yrS r)) N) all8) := by
  unfold Pipeline.launchCred
  rw [sems_univ]
  unfold sems
  iintro ⟨H0, -, -, -, -, -, H6, -, H8⟩
  isplitl [H0]; · iapply (Entails.of_eq (congrArg cred (launch_at c _ _ from_bar))) $$ H0
  isplitl [H6]
  · iapply (each_mono (fun r => Entails.of_eq (congrArg cred (launch_at c _ _ (from_xr r)))) all8) $$ H6
  · iapply (each_mono (fun r => Entails.of_eq (congrArg cred (launch_at c _ _ (from_yr r)))) all8) $$ H8

/-! ## The body as the launch asks for it -/

/-- The six scratch buffers. -/
abbrev scratch (c : Dev nD) : sProp 𝕄 := iprop(some c aV ∗ some c bV ∗ some c xsV ∗ some c xrV ∗ some c ysV ∗ some c yrV)
/-- The arguments as they were, and the output as it should be. -/
abbrev arraysAt (c : Dev nD) : sProp 𝕄 := iprop(pts c aH fullShare (Ac m c) ∗ pts c bH fullShare (Bc m c) ∗ pts c oH fullShare (outC m c))

/-- What device `c` starts from apart from its scratch buffers, and what it ends with. -/
def start (c : Dev nD) : sProp 𝕄 :=
  iprop(∃ K, records m K ∗ (pts c aH fullShare (Ac m c) ∗ pts c bH fullShare (Bc m c) ∗ some c oH)
    ∗ sems (fun sm => pos c sm) ∗ sems (fun sm => spends c sm false) ∗ tok (py c) (.reg barS) true
    ∗ crd c (.reg barS) 2 ∗ each (fun r => crd c (.dma (xrS r)) N) all8 ∗ each (fun r => crd c (.dma (yrS r)) N) all8)
/-- What a device holds before the body. -/
def before (c : Dev nD) : sProp 𝕄 := iprop(start m c ∗ scratch c)
/-- What it holds after the body. -/
def after (c : Dev nD) : sProp 𝕄 := iprop(arraysAt m c ∗ scratch c ∗ sems (fun sm => done c sm))

/-- The launch of the one region: no windows, one step. -/
def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => O₀ c
    | ⟨_ + 1, _⟩ => 0

/-- There are no windows to speak of. -/
theorem no_windows (Φ : Fin cfg0.W → sProp 𝕄) : bigSep Finset.univ Φ = iprop(emp) := bigSep_univ_eq_bigSepL [] (by decide) (by decide) Φ

set_option maxRecDepth 8000 in
/-- The body, as the launch asks for it. -/
theorem body_obligation (c : Dev nD) : BodyObligation (dats (F := F) m 0 c) (defs₀ (F := F)) 𝒱₀ () Set.univ := fun t => by
  rw [fin_N0 t, no_windows, no_windows]
  show iprop(before m c ∗ (dats m 0 c).owesAt () (t0_0 : Fin cfg0.N).castSucc ∗ emp) ⊢ wp frame (wpE (defs₀ (F := F)) 𝒱₀ c none) Set.univ
    (bodyAt0 (F := F) t0_0) (fun _ => iprop(after m c ∗ (dats m 0 c).owesAt () (t0_0 : Fin cfg0.N).succ ∗ emp))
  rw [body_eq]
  unfold before start after Dat.owesAt Pipeline.owesWithin
  rw [show (dats m 0 c).owed (t0_0 : Fin cfg0.N).castSucc = O₀ c from rfl, show (dats m 0 c).owed (t0_0 : Fin cfg0.N).succ = 0 from rfl]
  iintro ⟨⟨⟨%K, #HR, Harr, Hp, Hs, Ht, Hc⟩, Hscr⟩, ⟨%W, %hW, HO⟩, -⟩
  iapply (body_run m K c _) $$ [Harr Hp Hs Ht Hc Hscr HO]
  · unfold bodyPre ow
    isplitr; · iexact HR
    isplitl [HO]; · iexists W; iexact HO
    isplitl [Harr]; · iexact Harr
    isplitl [Hscr]; · iexact Hscr
    isplitl [Hp]; · iexact Hp
    isplitl [Hs]; · iexact Hs
    isplitl [Ht]; · iexact Ht
    iexact Hc
  unfold bodyPost ow
  iintro ⟨⟨%W', HO⟩, Harr, Hscr, Hd⟩
  isplitl [Harr Hscr Hd]
  · isplitl [Harr]; · iexact Harr
    isplitl [Hscr] <;> iassumption
  isplitl [HO]
  · iexists W'
    isplitr; · ipureintro; exact fun _ _ => Or.inl trivial
    iexact HO
  iempintro

/-! ## The launch theorem's side conditions -/

/-- The region's semaphores are those of its scratch. -/
theorem ownSemFacts : Pipeline.OwnSemFacts cfg0.spec osem := by decide

/-- Every window is held whole, there being none. -/
theorem share_eq (c : Dev nD) (w : Fin cfg0.W) : (dats m 0 c).share w = fullShare := w.elim0

/-- A whole buffer's elements are the buffer. -/
theorem pts_whole (c : Dev nD) (b : Ref sig .tc) (f : Buf (Elt F) ((c : Thread nD τ).loc b)) :
    (pts c (Memref.whole b) fullShare f : sProp 𝕄) = (((c : Thread nD τ).loc b) ↦{fullShare} f) := by
  unfold pts; simp only [Memref.view_whole, View.set_whole]

/-- The buffers that the region allocates are the six scratch buffers. -/
theorem scratch_eq (c : Dev nD) :
    (Pipeline.scopedRest (Ix := Unit) (Name := ℕ) (U := UU) (Lvl := ℕ) (Val := Elt F) cfg0.spec c : sProp 𝕄) = scratch c := by
  rw [scopedRest0_eq]
  unfold scratch some
  simp only [aV, bV, xsV, xrV, ysV, yrV, pts_whole]

/-- What the launch hands to a device is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' records opened
  iintro ⟨⟨Ha, Hb, Ho⟩, Hlev, Hcr, -, ⟨%K, ⟨HI, HR⟩, Hp, Hs⟩⟩
  ihave Hc := (creds (F := F) c) $$ Hcr
  ihave Hs := (spent_split (F := F) c) $$ Hs
  icases Hs with ⟨Hs, Ht⟩
  imodintro
  isplitl
  · iexists K
    isplitl [HI HR Hlev]
    · isplitl [HI]; · iexact HI
      isplitl [HR] <;> iassumption
    isplitl [Ha Hb Ho]
    · isplitl [Ha]; · iapply (Entails.of_eq (pts_whole c main_arg0 (Ac m c)).symm); iexact Ha
      isplitl [Hb]; · iapply (Entails.of_eq (pts_whole c main_arg1 (Bc m c)).symm); iexact Hb
      unfold some
      iexists _
      iapply (Entails.of_eq (pts_whole c main_v1 _).symm); iexact Ho
    isplitl [Hp]; · iapply (Entails.of_eq (sems_univ fun sm => pos (F := F) c sm)); iexact Hp
    isplitl [Hs]; · iexact Hs
    isplitl [Ht]; · iexact Ht
    iexact Hc
  · iempintro

/-- With the scratch buffers, that is what a device holds before the body. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scratch_eq]
  unfold before
  iintro ⟨Hs, -, Hr⟩
  isplitl [Hs] <;> iassumption

/-- What a device holds after the body is what the launch asks back. -/
theorem after_exit (c : Dev nD) :
    (dats m 0 c).Φ (Fin.last cfg0.N) ⊢ iprop((arraysAt m c ∗ unscopedSems0 c) ∗ Pipeline.ownSems0 osem c ∗ Pipeline.scopedRest cfg0.spec c) := by
  rw [show (dats m 0 c).Φ (Fin.last cfg0.N) = after m c from rfl, scratch_eq]
  unfold after
  rw [← sems_univ]
  iintro ⟨Ha, Hr, Hd⟩
  ihave Hd := (counters_eq (F := F) c).2 $$ Hd
  icases Hd with ⟨Hos, Hus⟩
  isplitl [Ha Hus]
  · isplitl [Ha] <;> iassumption
  isplitl [Hos] <;> iassumption

/-- The waits of the launch are allowed. -/
theorem waits (c : Dev nD) : (levAts L lv : sProp 𝕄) ⊢ Pipeline.cellsWaits cfgs (dats m) () 0 c :=
  Pipeline.cellsWaits_intro cfgs (dats m) () 0 c fun w s t => w.elim0

/-! ## The run -/

/-- What the final memory holds on device `c`. -/
def Final (c : Dev nD) (s : MemSt nD τ sig (Elt F)) : Prop :=
  s.mem ((c : Thread nD τ).loc main_v1) = outC m c
    ∧ s.mem ((c : Thread nD τ).loc main_arg0) = m ((c : Thread nD τ).loc main_arg0)
    ∧ s.mem ((c : Thread nD τ).loc main_arg1) = m ((c : Thread nD τ).loc main_arg1)

/-- What is held of the arrays at the end says what memory holds. -/
theorem arrays_read (c : Dev nD) (s' : Phys nD τ sig (Elt F)) : iprop(arraysAt m c ∗ SI s') ⊢ (iprop(⌜Final m c s'.mem⌝ ∗ SI s') : sProp 𝕄) := by
  unfold arraysAt
  rw [show (pts c aH fullShare (Ac m c) : sProp 𝕄) = _ from pts_whole c main_arg0 (Ac m c),
    show (pts c bH fullShare (Bc m c) : sProp 𝕄) = _ from pts_whole c main_arg1 (Bc m c),
    show (pts c oH fullShare (outC m c) : sProp 𝕄) = _ from pts_whole c main_v1 (outC m c)]
  iintro ⟨⟨Ha, Hb, Ho⟩, HSI⟩
  icombine HSI Ha gives %ha
  icombine HSI Hb gives %hb
  icombine HSI Ho gives %ho
  isplitr
  · ipureintro
    exact ⟨funext fun i => ho i (Finset.mem_univ i), funext fun i => ha i (Finset.mem_univ i), funext fun i => hb i (Finset.mem_univ i)⟩
  iexact HSI

set_option maxRecDepth 8000 in
/-- On four devices, for any float values, from any memory with the counters at zero: every run ends, and then every
    device's output array is `outC`, its arguments are as they were, and every semaphore is at zero. -/
theorem run_main : θ_run defs (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := fun c => iprop(arraysAt m c ∗ unscopedSems0 c)) (Z := fun _ => iprop(emp))
    (hX := start_intro m ρ) (hin := before_intro m) (hout := after_exit m)
    (QY := fun c s => Final m c s ∧ ∀ sm : SemLoc sig, sm.isScoped .tc = false → s.sem ((c.tc : Thread nD τ), sm) = 0)
    (hY := fun c s' => by
      iintro ⟨⟨Ha, Hu⟩, -, HSI⟩
      ihave H := (arrays_read m c s') $$ [Ha HSI]
      · isplitl [Ha] <;> iassumption
      icases H with ⟨%hf, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hf, hs⟩
      iexact HSI)
    (hQ := fun _ h hs => ⟨fun c => (h c).2.2.1, sem_eq_zero hs fun c => (h c).2.2.2⟩)

end Cert.KernelIdealProof

end
-- ==== Proof.Value.lean ====
/-
The value over the extended reals: a device's chunk of the partial product is the sum over its half of the contracted
dimension, the sum of two x-neighbours' chunks is the sum over all of it, and so the output on every device is the
reference's product of the whole matrices.
-/
module

public import proofs.«01_k».proof.Proof.KernelIdealLaunch
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.PureOps.Ideal

@[expose] public section

noncomputable section

namespace Cert.KernelIdealProof

open Cert.KernelIdeal Cert.KernelIdeal.Gen
open Idealize.ShloMosaic Idealize.ShloMosaic.TcCoe Idealize.ShloMosaic.ValueIdx
open scoped BigOperators

/-- A whole matrix. -/
abbrev Mat : Type := (⟨2, ![1024, 1024]⟩ : Shape).Idx → EReal

/-- Position `k` of half `x` of the contracted dimension. -/
def col (x : ℕ) (hx : x < 2) (k : Fin 512) : Fin 1024 := ⟨512 * x + k.val, by omega⟩

/-- Entry `(i, j)` of the product over half `x` of the contracted dimension. -/
def halfDot (X Y : Mat) (i j : Fin 1024) (x : ℕ) (hx : x < 2) : EReal := ∑ k : Fin 512, X (ix2 i (col x hx k)) * Y (ix2 (col x hx k) j)

/-- The two halves add up to the whole. -/
theorem halves (X Y : Mat) (i j : Fin 1024) :
    halfDot X Y i j 0 (by decide) + halfDot X Y i j 1 (by decide) = ∑ k : Fin 1024, X (ix2 i k) * Y (ix2 k j) := by
  rw [Fin.sum_univ_add (a := 512) (b := 512) fun k : Fin 1024 => X (ix2 i k) * Y (ix2 k j)]
  refine congr (congrArg HAdd.hAdd (Finset.sum_congr rfl fun k _ => ?_)) (Finset.sum_congr rfl fun k _ => ?_)
  · rw [show col 0 (by decide) k = Fin.castAdd 512 k from Fin.ext (by show 512 * 0 + k.val = k.val; omega)]
  · rw [show col 1 (by decide) k = Fin.natAdd 512 k from Fin.ext (by show 512 * 1 + k.val = 512 + k.val; omega)]

/-- In either order. -/
theorem halves_of (X Y : Mat) (i j : Fin 1024) (x x' : ℕ) (hx : x < 2) (hx' : x' < 2) (h : x + x' = 1) :
    halfDot X Y i j x hx + halfDot X Y i j x' hx' = ∑ k : Fin 1024, X (ix2 i k) * Y (ix2 k j) := by
  rcases (show (x = 0 ∧ x' = 1) ∨ (x = 1 ∧ x' = 0) by omega) with ⟨rfl, rfl⟩ | ⟨rfl, rfl⟩
  · exact halves X Y i j
  · rw [add_comm]; exact halves X Y i j

/-- The stored chunk of a partial product, at an index. -/
theorem partChunk_apply (b : FVec Ideal S512x1024 .f32) (a : FVec Ideal S64x512 .f32) (p : Fin 64) (j : Fin 1024) :
    partChunk (F := Ideal) b a (ix2 p j) = ∑ k : Fin 512, a (ix2 p k) * b (ix2 k j) := by
  unfold partChunk k0_pay2 k0_pay1
  dsimp only
  rw [shapeCast_self]
  show FloatOps.matmul (F := Ideal) (φ₁ := .bf16) (φ₂ := .bf16) (DotDims.plain 64 512 1024) none _ _ _ (ix2 p j) = _
  rw [Ideal.matmul_plain_apply]
  show Ideal.ofBits .f32 0x00000000#32 + _ = _
  rw [Ideal.ofBits_zero_f32, zero_add]
  rfl

/-- The chunk of sums, at an index. -/
theorem sumChunk_apply (u v : FVec Ideal S64x1024 .bf16) (i : S64x1024.Idx) : sumChunk u v i = u i + v i := by
  unfold sumChunk k0_pay17
  rw [shapeCast_self]
  rfl

variable (m : (ℓ : Loc nD τ sig) → Buf (Elt Ideal) ℓ) (X Y : Mat)

/-- Every device's arguments are its blocks of the whole matrices. -/
def Blocks : Prop := ∀ c : Dev nD,
  Ac m c = Layout.blockN ⟨2, ![1024, 512]⟩ ⟨2, ![1024, 1024]⟩ (Layout.meshBlock [2, 2] ![[], [0]] c) X
    ∧ Bc m c = Layout.blockN ⟨2, ![512, 1024]⟩ ⟨2, ![1024, 1024]⟩ (Layout.meshBlock [2, 2] ![[0], []] c) Y

/-- A device lies in one of two columns of the mesh. -/
theorem x_lt (c : Dev nD) : c.val / 2 < 2 := by have : c.val < 4 := c.isLt; omega
/-- The block that a device holds is named by its place along x. -/
theorem lin_x : ∀ c : Dev nD, Layout.meshLin [2, 2] c.val [0] = c.val / 2 := by decide

variable {m X Y}

/-- Row `p` of chunk `r` of the A rows device `c` works on, as an entry of the whole matrix. -/
theorem aRows_at (h : Blocks m X Y) (c : Dev nD) (r : Fin 8) (p : Fin 64) (k : Fin 512) (i : Fin 1024)
    (hi : i.val = 512 * (c.val % 2) + 64 * r.val + p.val) : aRows m c r (ix2 p k) = X (ix2 i (col (c.val / 2) (x_lt c) k)) := by
  unfold aRows aC
  rw [(h c).1]
  refine congrArg X (funext fun a => Fin.ext ?_)
  match a with
  | ⟨0, _⟩ =>
    show 0 * 1024 + (k0_off1 c (0 : Fin 2) + 1 * (64 * r.val + 1 * p.val)) = i.val
    rw [k0_off1_eq c, hi]; show 0 * 1024 + (512 * (c.val % 2) + 1 * (64 * r.val + 1 * p.val)) = _; omega
  | ⟨1, _⟩ =>
    show Layout.meshLin [2, 2] c.val [0] * 512 + (k0_off1 c (1 : Fin 2) + 1 * (0 + 1 * k.val)) = 512 * (c.val / 2) + k.val
    rw [k0_off1_eq c, lin_x c]; show c.val / 2 * 512 + (0 + 1 * (0 + 1 * k.val)) = _; omega

/-- The device's B, as an entry of the whole matrix. -/
theorem b_at (h : Blocks m X Y) (c : Dev nD) (k : Fin 512) (j : Fin 1024) :
    Bc m c (ix2 k j) = Y (ix2 (col (c.val / 2) (x_lt c) k) j) := by
  rw [(h c).2]
  refine congrArg Y (funext fun a => Fin.ext ?_)
  match a with
  | ⟨0, _⟩ =>
    show Layout.meshLin [2, 2] c.val [0] * 512 + k.val = 512 * (c.val / 2) + k.val
    rw [lin_x c]; omega
  | ⟨1, _⟩ => show 0 * 1024 + j.val = j.val; omega

/-- A chunk of a partial product is the product over the device's half of the contracted dimension. -/
theorem part_at (h : Blocks m X Y) (c : Dev nD) (r : Fin 8) (p : Fin 64) (i j : Fin 1024)
    (hi : i.val = 512 * (c.val % 2) + 64 * r.val + p.val) : part m c r (ix2 p j) = halfDot X Y i j (c.val / 2) (x_lt c) := by
  unfold part
  rw [partChunk_apply]
  exact Finset.sum_congr rfl fun k _ => by rw [aRows_at h c r p k i hi, b_at h c k j]

/-- x-neighbours work on the same rows. -/
theorem px_row : ∀ c : Dev nD, (px c).val % 2 = c.val % 2 := by decide
/-- x-neighbours hold the two halves of the contracted dimension. -/
theorem px_half : ∀ c : Dev nD, c.val / 2 + (px c).val / 2 = 1 := by decide

/-- The sum with the x-neighbour is the product over all of it. -/
theorem sumC_at (h : Blocks m X Y) (c : Dev nD) (r : Fin 8) (p : Fin 64) (i j : Fin 1024)
    (hi : i.val = 512 * (c.val % 2) + 64 * r.val + p.val) : sumC m c r (ix2 p j) = ∑ k : Fin 1024, X (ix2 i k) * Y (ix2 k j) := by
  unfold sumC
  rw [sumChunk_apply, part_at h c r p i j hi, part_at h (px c) r p i j (by rw [px_row c]; exact hi)]
  exact halves_of X Y i j _ _ _ _ (px_half c)

/-- The device that computes half `h` of the rows lies at `h` along y. -/
theorem half_row (c : Dev nD) : ∀ h : Fin 2, (half c h.val).val % 2 = h.val := by revert c; decide

/-- On every device the output is the product of the whole matrices. -/
theorem outC_at_entry (h : Blocks m X Y) (c : Dev nD) (i j : Fin 1024) : outC m c (ix2 i j) = ∑ k : Fin 1024, X (ix2 i k) * Y (ix2 k j) := by
  have hh : i.val / 512 < 2 := by omega
  rw [outC_at m c (half c (i.val / 512)) (i.val / 512) hh rfl ⟨i.val % 512 / 64, by omega⟩
    (ix2 (⟨i.val % 64, by omega⟩ : Fin 64) j) (ix2 i j) (by
      show i.val = 512 * (i.val / 512) + 64 * (i.val % 512 / 64) + i.val % 64; omega) rfl]
  refine sumC_at h _ _ _ i j ?_
  rw [half_row c ⟨i.val / 512, hh⟩]
  show i.val = 512 * (i.val / 512) + 64 * (i.val % 512 / 64) + i.val % 64; omega

/-- The reference's result. -/
def result (X Y : Mat) : Mat :=
  truncf (F := Ideal) (φ := .f32) .bf16 (Host.dotGeneral (F := Ideal) (φ₁ := .f32) (φ₂ := .f32) (DotDims.plain 1024 1024 1024) none X Y) (by decide)

/-- The reference's result, at an index. -/
theorem result_at (X Y : Mat) (i j : Fin 1024) : result X Y (ix2 i j) = ∑ k : Fin 1024, X (ix2 i k) * Y (ix2 k j) :=
  StackMember.dotGeneral_plain_apply (φ₁ := .f32) (φ₂ := .f32) none X Y i j

/-- On every device the whole output is the reference's result. -/
theorem outC_eq (h : Blocks m X Y) (c : Dev nD) : outC m c = result X Y := funext fun i => by
  rw [eq_ix2 (n0 := 1024) (n1 := 1024) i]
  exact (outC_at_entry h c (i 0) (i 1)).trans (result_at X Y (i 0) (i 1)).symm

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import Idealize.ShloMosaic.Lib.Quiescent
public import proofs.«01_k».proof.Proof.KernelLaunch
public import proofs.«01_k».proof.Proof.KernelIdealLaunch
public import proofs.«01_k».proof.Proof.Value

@[expose] public section

noncomputable section

namespace Cert.Proof

open Idealize.ShloMosaic Idealize.SL.Sem Cert.Kernel

/-- The printed kernel at the bits runs, keeps its arguments and leaves every semaphore at zero. -/
theorem frame_kernel : Cert.quiescent_Kernel (hKernel := Cert.Kernel.Gen.facts) := fun m g _ =>
  (θ_run (Cert.Kernel.defs (F := Bits)) _ _).mono (fun _ h => ⟨fun c => (h.1 c).2, h.2⟩) (Cert.KernelProof.run_main m g)

/-- The kernel at the extended reals runs, keeps its arguments and leaves every semaphore at zero. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdealProof.run_main m g)

/-- The reference runs and keeps its arguments; it declares no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- From blocks of the same whole matrices, every device of the kernel ends with the reference's product. -/
theorem value : Cert.algebraic_KernelIdeal_ReferenceIdeal (hKernelIdeal := Cert.KernelIdeal.Gen.facts)
    (hReferenceIdeal := Cert.ReferenceIdeal.Gen.facts) := fun m g m' g' _ hb =>
  ⟨Cert.KernelIdealProof.result _ _,
    (θ_run (Cert.KernelIdeal.defs (F := Ideal)) _ _).mono
      (fun _ h c => ⟨(h.1 c).1.trans (Cert.KernelIdealProof.outC_eq hb c), (h.1 c).2⟩) (Cert.KernelIdealProof.run_main m g),
    (θ_run (Cert.ReferenceIdeal.defs (F := Ideal)) _ _).mono (fun _ h => h 0) (Cert.ReferenceIdeal.Value.run m' g')⟩

/-- The whole certificate. -/
theorem claim : Cert.Claim := ⟨Cert.Kernel.Gen.facts, Cert.KernelIdeal.Gen.facts, Cert.ReferenceIdeal.Gen.facts,
  frame_kernel, frame_ideal, frame_reference, trivial, value⟩

end Cert.Proof

end
